-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x13 : Shape := ⟨2, ![16384, 13]⟩
abbrev S16384x26 : Shape := ⟨2, ![16384, 26]⟩
abbrev S26x100000x64 : Shape := ⟨3, ![26, 100000, 64]⟩
abbrev S1677x1024 : Shape := ⟨2, ![1677, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : FVec F S16384x13 .f32) (main_arg1 : IVec S16384x26 32) (main_arg2 : FVec F S26x100000x64 .f32) (main_arg3 : FVec F S1677x1024 .f32) (main_arg4 : FVec F S1024 .f32) (main_arg5 : FVec F S1024x1024 .f32) (main_arg6 : FVec F S1024 .f32) (main_arg7 : FVec F S1024x512 .f32) (main_arg8 : FVec F S512 .f32) (main_arg9 : FVec F S512x256 .f32) (main_arg10 : FVec F S256 .f32) (main_arg11 : FVec F S256x2 .f32) (main_arg12 : FVec F S2 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x13 : Shape := ⟨2, ![16384, 13]⟩
abbrev S16384x26 : Shape := ⟨2, ![16384, 26]⟩
abbrev S26x100000x64 : Shape := ⟨3, ![26, 100000, 64]⟩
abbrev S1677x1024 : Shape := ⟨2, ![1677, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S26x64x100000 : Shape := ⟨3, ![26, 64, 100000]⟩
abbrev S1664x100000 : Shape := ⟨2, ![1664, 100000]⟩
abbrev S26x16384 : Shape := ⟨2, ![26, 16384]⟩
abbrev S832x16384 : Shape := ⟨2, ![832, 16384]⟩
abbrev S100000 : Shape := ⟨1, ![100000]⟩
abbrev S16384 : Shape := ⟨1, ![16384]⟩
abbrev S8192 : Shape := ⟨1, ![8192]⟩
abbrev S_ : Shape := ⟨0, ![]⟩
abbrev S1x16384 : Shape := ⟨2, ![1, 16384]⟩
abbrev S1x100000 : Shape := ⟨2, ![1, 100000]⟩
abbrev S16 : Shape := ⟨1, ![16]⟩
abbrev S1x8192 : Shape := ⟨2, ![1, 8192]⟩
abbrev S832x1024 : Shape := ⟨2, ![832, 1024]⟩
abbrev S16384x1024 : Shape := ⟨2, ![16384, 1024]⟩
abbrev S16384x128 : Shape := ⟨2, ![16384, 128]⟩
abbrev S13x1024 : Shape := ⟨2, ![13, 1024]⟩
abbrev S128x1024 : Shape := ⟨2, ![128, 1024]⟩
abbrev S256x128 : Shape := ⟨2, ![256, 128]⟩
abbrev S128 : Shape := ⟨1, ![128]⟩
abbrev S1x128 : Shape := ⟨2, ![1, 128]⟩
abbrev S1x1024 : Shape := ⟨2, ![1, 1024]⟩
abbrev S1x512 : Shape := ⟨2, ![1, 512]⟩
abbrev S1x256 : Shape := ⟨2, ![1, 256]⟩
abbrev S1024x128 : Shape := ⟨2, ![1024, 128]⟩
abbrev S1024x256 : Shape := ⟨2, ![1024, 256]⟩
abbrev S16384x2 : Shape := ⟨2, ![16384, 2]⟩

abbrev nBuf : Table → Nat
  | .hbm => 41
  | .local .tc .vmem => 24
  | .local .scVector .vmem => 6
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S26x100000x64, .f32⟩
  | .hbm, ⟨3, _⟩ => ⟨S1677x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S26x64x100000, .f32⟩
  | .hbm, ⟨14, _⟩ => ⟨S1664x100000, .f32⟩
  | .hbm, ⟨15, _⟩ => ⟨S26x16384, .i32⟩
  | .hbm, ⟨16, _⟩ => ⟨S832x16384, .f32⟩
  | .hbm, ⟨17, _⟩ => ⟨S832x16384, .f32⟩
  | .hbm, ⟨18, _⟩ => ⟨S832x1024, .f32⟩
  | .hbm, ⟨19, _⟩ => ⟨S832x1024, .f32⟩
  | .hbm, ⟨20, _⟩ => ⟨S16384x1024, .f32⟩
  | .hbm, ⟨21, _⟩ => ⟨S_, .i32⟩
  | .hbm, ⟨22, _⟩ => ⟨S_, .f32⟩
  | .hbm, ⟨23, _⟩ => ⟨S16384x128, .f32⟩
  | .hbm, ⟨24, _⟩ => ⟨S13x1024, .f32⟩
  | .hbm, ⟨25, _⟩ => ⟨S_, .i32⟩
  | .hbm, ⟨26, _⟩ => ⟨S_, .f32⟩
  | .hbm, ⟨27, _⟩ => ⟨S128x1024, .f32⟩
  | .hbm, ⟨28, _⟩ => ⟨S_, .i32⟩
  | .hbm, ⟨29, _⟩ => ⟨S_, .f32⟩
  | .hbm, ⟨30, _⟩ => ⟨S256x128, .f32⟩
  | .hbm, ⟨31, _⟩ => ⟨S_, .i32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S1x1024, .f32⟩
  | .hbm, ⟨36, _⟩ => ⟨S1x1024, .f32⟩
  | .hbm, ⟨37, _⟩ => ⟨S1x512, .f32⟩
  | .hbm, ⟨38, _⟩ => ⟨S1x256, .f32⟩
  | .hbm, ⟨39, _⟩ => ⟨S16384x128, .f32⟩
  | .hbm, ⟨40, _⟩ => ⟨S16384x2, .f32⟩
  | .local .tc .vmem, ⟨0, _⟩ => ⟨S832x1024, .f32⟩
  | .local .tc .vmem, ⟨1, _⟩ => ⟨S832x1024, .f32⟩
  | .local .tc .vmem, ⟨2, _⟩ => ⟨S832x1024, .f32⟩
  | .local .tc .vmem, ⟨3, _⟩ => ⟨S1024x1024, .f32⟩
  | .local .tc .vmem, ⟨4, _⟩ => ⟨S1024x1024, .f32⟩
  | .local .tc .vmem, ⟨5, _⟩ => ⟨S1024x128, .f32⟩
  | .local .tc .vmem, ⟨6, _⟩ => ⟨S1024x128, .f32⟩
  | .local .tc .vmem, ⟨7, _⟩ => ⟨S832x1024, .f32⟩
  | .local .tc .vmem, ⟨8, _⟩ => ⟨S832x1024, .f32⟩
  | .local .tc .vmem, ⟨9, _⟩ => ⟨S1024x1024, .f32⟩
  | .local .tc .vmem, ⟨10, _⟩ => ⟨S1024x1024, .f32⟩
  | .local .tc .vmem, ⟨11, _⟩ => ⟨S128x1024, .f32⟩
  | .local .tc .vmem, ⟨12, _⟩ => ⟨S832x1024, .f32⟩
  | .local .tc .vmem, ⟨13, _⟩ => ⟨S1x1024, .f32⟩
  | .local .tc .vmem, ⟨14, _⟩ => ⟨S1024x1024, .f32⟩
  | .local .tc .vmem, ⟨15, _⟩ => ⟨S1x1024, .f32⟩
  | .local .tc .vmem, ⟨16, _⟩ => ⟨S1024x512, .f32⟩
  | .local .tc .vmem, ⟨17, _⟩ => ⟨S1x512, .f32⟩
  | .local .tc .vmem, ⟨18, _⟩ => ⟨S512x256, .f32⟩
  | .local .tc .vmem, ⟨19, _⟩ => ⟨S1x256, .f32⟩
  | .local .tc .vmem, ⟨20, _⟩ => ⟨S256x128, .f32⟩
  | .local .tc .vmem, ⟨21, _⟩ => ⟨S1x128, .f32⟩
  | .local .tc .vmem, ⟨22, _⟩ => ⟨S1024x128, .f32⟩
  | .local .tc .vmem, ⟨23, _⟩ => ⟨S1024x128, .f32⟩
  | .local .scVector .vmem, ⟨0, _⟩ => ⟨S100000, .f32⟩
  | .local .scVector .vmem, ⟨1, _⟩ => ⟨S16384, .i32⟩
  | .local .scVector .vmem, ⟨2, _⟩ => ⟨S8192, .f32⟩
  | .local .scVector .vmem, ⟨3, _⟩ => ⟨S100000, .f32⟩
  | .local .scVector .vmem, ⟨4, _⟩ => ⟨S16384, .i32⟩
  | .local .scVector .vmem, ⟨5, _⟩ => ⟨S8192, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_call1_v0 : Ref sig .tc := ⟨.hbm, 26, rfl⟩
abbrev main_v10 : Ref sig .tc := ⟨.hbm, 27, rfl⟩
abbrev main_c_1 : Ref sig .tc := ⟨.hbm, 28, rfl⟩
abbrev main_call2_v0 : Ref sig .tc := ⟨.hbm, 29, rfl⟩
abbrev main_v11 : Ref sig .tc := ⟨.hbm, 30, rfl⟩
abbrev main_c_2 : Ref sig .tc := ⟨.hbm, 31, rfl⟩
abbrev main_call3_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v2_scv : Ref sig .scVector := ⟨.hbm, 15, rfl⟩
abbrev main_v1_scv : Ref sig .scVector := ⟨.hbm, 14, rfl⟩
abbrev main_v3_scv : Ref sig .scVector := ⟨.hbm, 16, rfl⟩
abbrev main_v4_scv : Ref sig .scVector := ⟨.hbm, 17, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg2_1 : Ref sig .tc := ⟨.vmem, 4, rfl⟩
abbrev cc3_stg0_0 : Ref sig .tc := ⟨.vmem, 5, rfl⟩
abbrev cc3_stg0_1 : Ref sig .tc := ⟨.vmem, 6, rfl⟩
abbrev cc3_stg1_0 : Ref sig .tc := ⟨.vmem, 7, rfl⟩
abbrev cc3_stg1_1 : Ref sig .tc := ⟨.vmem, 8, rfl⟩
abbrev cc3_stg2_0 : Ref sig .tc := ⟨.vmem, 9, rfl⟩
abbrev cc3_stg2_1 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_stg7_0 : Ref sig .tc := ⟨.vmem, 15, rfl⟩
abbrev cc3_stg8_0 : Ref sig .tc := ⟨.vmem, 16, rfl⟩
abbrev cc3_stg9_0 : Ref sig .tc := ⟨.vmem, 17, rfl⟩
abbrev cc3_stg10_0 : Ref sig .tc := ⟨.vmem, 18, rfl⟩
abbrev cc3_stg11_0 : Ref sig .tc := ⟨.vmem, 19, rfl⟩
abbrev cc3_stg12_0 : Ref sig .tc := ⟨.vmem, 20, rfl⟩
abbrev cc3_stg13_0 : Ref sig .tc := ⟨.vmem, 21, rfl⟩
abbrev cc3_stg14_0 : Ref sig .tc := ⟨.vmem, 22, rfl⟩
abbrev cc3_stg14_1 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem5_0 : DmaSem sig := 19
abbrev cc3_sem6_0 : DmaSem sig := 20
abbrev cc3_sem7_0 : DmaSem sig := 21
abbrev cc3_sem8_0 : DmaSem sig := 22
abbrev cc3_sem9_0 : DmaSem sig := 23
abbrev cc3_sem10_0 : DmaSem sig := 24
abbrev cc3_sem11_0 : DmaSem sig := 25
abbrev cc3_sem12_0 : DmaSem sig := 26
abbrev cc3_sem13_0 : DmaSem sig := 27
abbrev cc3_sem14_0 : DmaSem sig := 28
abbrev cc3_sem14_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c26_i32_0 : BitVec 32 := 26#32
  let v3 : BitVec 32 := Scalar.addi c0_i32 c26_i32_0
  let c1_i32 : BitVec 32 := 1#32
  ⟨c0_i32, v3, c1_i32⟩
def k0_off1 (i : grid0.Coords) (k0_t1 : Fin k0_t1_loop.trips) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c0_i32_2 v2
  let c0_i32 : BitVec 32 := 0#32
  let c1_i32 : BitVec 32 := 1#32
  let arg8 : BitVec 32 := Scf.iv c0_i32 c1_i32 k0_t1
  let v6 : BitVec 32 := Scalar.addi v5 arg8
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c64_i32 : BitVec 32 := 64#32
  let c0_i32_5 : BitVec 32 := 0#32
  let v13 : BitVec 1 := Scalar.cmpi .sgt c64_i32 c0_i32_5
  let v14 : BitVec 32 := Scalar.extui v13
  let c0_i32_6 : BitVec 32 := 0#32
  let v15 : BitVec 1 := Scalar.cmpi .slt c64_i32 c0_i32_6
  let v16 : BitVec 32 := Scalar.extui v15
  let v17 : BitVec 32 := Scalar.subi v14 v16
  let v18 : BitVec 1 := Scalar.cmpi .ne v12 v17
  let v19 : BitVec 32 := Scalar.remsi v6 c64_i32
  let c0_i32_7 : BitVec 32 := 0#32
  let v20 : BitVec 1 := Scalar.cmpi .ne v19 c0_i32_7
  let v21 : BitVec 1 := Scalar.andi v18 v20
  let v7 : BitVec 32 := Scalar.divsi v6 c64_i32
  let c1_i32_8 : BitVec 32 := 1#32
  let v22 : BitVec 32 := Scalar.subi v7 c1_i32_8
  let v23 : BitVec 32 := Scalar.select v21 v22 v7
  let c0_i32_15_r0 : BitVec 32 := 0#32
  ![v23.toNat, 0]
def k0_off2 (i : grid0.Coords) (k0_t1 : Fin k0_t1_loop.trips) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c0_i32_2 v2
  let c0_i32 : BitVec 32 := 0#32
  let c1_i32 : BitVec 32 := 1#32
  let arg8 : BitVec 32 := Scf.iv c0_i32 c1_i32 k0_t1
  let v6 : BitVec 32 := Scalar.addi v5 arg8
  let c0_i32_15_r1 : BitVec 32 := 0#32
  ![v6.toNat, 0]
@[reducible] def k0_t2_loop : Scf.Loop 32 :=
  let c0_i32_11 : BitVec 32 := 0#32
  let c2_i32_12 : BitVec 32 := 2#32
  let v27 : BitVec 32 := Scalar.addi c0_i32_11 c2_i32_12
  let c1_i32_13 : BitVec 32 := 1#32
  ⟨c0_i32_11, v27, c1_i32_13⟩
def k0_mult1 (k0_t2 : Fin k0_t2_loop.trips) : BitVec 32 :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  v28
@[reducible] def k0_t3_loop : Scf.Loop 32 :=
  let c0_i32_16 : BitVec 32 := 0#32
  let c64_i32_17 : BitVec 32 := 64#32
  let v30 : BitVec 32 := Scalar.addi c0_i32_16 c64_i32_17
  let c1_i32_18 : BitVec 32 := 1#32
  ⟨c0_i32_16, v30, c1_i32_18⟩
def k0_mult2 (k0_t3 : Fin k0_t3_loop.trips) : BitVec 32 :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  v32
def k0_off3 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c0_i32_21 : BitVec 32 := 0#32
  let v34 : BitVec 32 := Scalar.addi v33 c0_i32_21
  let v35 : BitVec 32 := Scalar.addi v29 v34
  let v36 : Index := Scalar.indexCast v35
  ![v36.toNat]

def k0_chk1 (v37 : IVec S16 32) : Prop :=
  (∀ a x, ((![v37] : Fin 1 → IVec S16 32) a x).toNat < S100000.size a)
theorem k0_idx1_inb : ∀ (v37 : IVec S16 32) (k0_hw1 : k0_chk1 v37), ∀ a x, ((![v37] : Fin 1 → IVec S16 32) a x).toNat < S100000.size a := fun v37 k0_hw1 => k0_hw1
def k0_off4 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c0_i32_21 : BitVec 32 := 0#32
  let v34 : BitVec 32 := Scalar.addi v33 c0_i32_21
  let v39 : Index := Scalar.indexCast v34
  ![v39.toNat]
def k0_off5 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c16_i32 : BitVec 32 := 16#32
  let v41 : BitVec 32 := Scalar.addi v33 c16_i32
  let v42 : BitVec 32 := Scalar.addi v29 v41
  let v43 : Index := Scalar.indexCast v42
  ![v43.toNat]

def k0_chk2 (v44 : IVec S16 32) : Prop :=
  (∀ a x, ((![v44] : Fin 1 → IVec S16 32) a x).toNat < S100000.size a)
theorem k0_idx2_inb : ∀ (v44 : IVec S16 32) (k0_hw2 : k0_chk2 v44), ∀ a x, ((![v44] : Fin 1 → IVec S16 32) a x).toNat < S100000.size a := fun v44 k0_hw2 => k0_hw2
def k0_off6 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c16_i32 : BitVec 32 := 16#32
  let v41 : BitVec 32 := Scalar.addi v33 c16_i32
  let v46 : Index := Scalar.indexCast v41
  ![v46.toNat]
def k0_off7 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c32_i32 : BitVec 32 := 32#32
  let v48 : BitVec 32 := Scalar.addi v33 c32_i32
  let v49 : BitVec 32 := Scalar.addi v29 v48
  let v50 : Index := Scalar.indexCast v49
  ![v50.toNat]

def k0_chk3 (v51 : IVec S16 32) : Prop :=
  (∀ a x, ((![v51] : Fin 1 → IVec S16 32) a x).toNat < S100000.size a)
theorem k0_idx3_inb : ∀ (v51 : IVec S16 32) (k0_hw3 : k0_chk3 v51), ∀ a x, ((![v51] : Fin 1 → IVec S16 32) a x).toNat < S100000.size a := fun v51 k0_hw3 => k0_hw3
def k0_off8 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c32_i32 : BitVec 32 := 32#32
  let v48 : BitVec 32 := Scalar.addi v33 c32_i32
  let v53 : Index := Scalar.indexCast v48
  ![v53.toNat]
def k0_off9 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c48_i32 : BitVec 32 := 48#32
  let v55 : BitVec 32 := Scalar.addi v33 c48_i32
  let v56 : BitVec 32 := Scalar.addi v29 v55
  let v57 : Index := Scalar.indexCast v56
  ![v57.toNat]

def k0_chk4 (v58 : IVec S16 32) : Prop :=
  (∀ a x, ((![v58] : Fin 1 → IVec S16 32) a x).toNat < S100000.size a)
theorem k0_idx4_inb : ∀ (v58 : IVec S16 32) (k0_hw4 : k0_chk4 v58), ∀ a x, ((![v58] : Fin 1 → IVec S16 32) a x).toNat < S100000.size a := fun v58 k0_hw4 => k0_hw4
def k0_off10 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c48_i32 : BitVec 32 := 48#32
  let v55 : BitVec 32 := Scalar.addi v33 c48_i32
  let v60 : Index := Scalar.indexCast v55
  ![v60.toNat]
def k0_off11 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c64_i32_22 : BitVec 32 := 64#32
  let v62 : BitVec 32 := Scalar.addi v33 c64_i32_22
  let v63 : BitVec 32 := Scalar.addi v29 v62
  let v64 : Index := Scalar.indexCast v63
  ![v64.toNat]

def k0_chk5 (v65 : IVec S16 32) : Prop :=
  (∀ a x, ((![v65] : Fin 1 → IVec S16 32) a x).toNat < S100000.size a)
theorem k0_idx5_inb : ∀ (v65 : IVec S16 32) (k0_hw5 : k0_chk5 v65), ∀ a x, ((![v65] : Fin 1 → IVec S16 32) a x).toNat < S100000.size a := fun v65 k0_hw5 => k0_hw5
def k0_off12 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c64_i32_22 : BitVec 32 := 64#32
  let v62 : BitVec 32 := Scalar.addi v33 c64_i32_22
  let v67 : Index := Scalar.indexCast v62
  ![v67.toNat]
def k0_off13 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c80_i32 : BitVec 32 := 80#32
  let v69 : BitVec 32 := Scalar.addi v33 c80_i32
  let v70 : BitVec 32 := Scalar.addi v29 v69
  let v71 : Index := Scalar.indexCast v70
  ![v71.toNat]

def k0_chk6 (v72 : IVec S16 32) : Prop :=
  (∀ a x, ((![v72] : Fin 1 → IVec S16 32) a x).toNat < S100000.size a)
theorem k0_idx6_inb : ∀ (v72 : IVec S16 32) (k0_hw6 : k0_chk6 v72), ∀ a x, ((![v72] : Fin 1 → IVec S16 32) a x).toNat < S100000.size a := fun v72 k0_hw6 => k0_hw6
def k0_off14 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c80_i32 : BitVec 32 := 80#32
  let v69 : BitVec 32 := Scalar.addi v33 c80_i32
  let v74 : Index := Scalar.indexCast v69
  ![v74.toNat]
def k0_off15 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c96_i32 : BitVec 32 := 96#32
  let v76 : BitVec 32 := Scalar.addi v33 c96_i32
  let v77 : BitVec 32 := Scalar.addi v29 v76
  let v78 : Index := Scalar.indexCast v77
  ![v78.toNat]

def k0_chk7 (v79 : IVec S16 32) : Prop :=
  (∀ a x, ((![v79] : Fin 1 → IVec S16 32) a x).toNat < S100000.size a)
theorem k0_idx7_inb : ∀ (v79 : IVec S16 32) (k0_hw7 : k0_chk7 v79), ∀ a x, ((![v79] : Fin 1 → IVec S16 32) a x).toNat < S100000.size a := fun v79 k0_hw7 => k0_hw7
def k0_off16 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c96_i32 : BitVec 32 := 96#32
  let v76 : BitVec 32 := Scalar.addi v33 c96_i32
  let v81 : Index := Scalar.indexCast v76
  ![v81.toNat]
def k0_off17 (k0_t2 : Fin k0_t2_loop.trips) (k0_t3 : Fin k0_t3_loop.trips) : Fin 1 → Nat :=
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c112_i32 : BitVec 32 := 112#32
  let v83 : BitVec 32 := Scalar.addi v33 c112_i32
  let v84 : BitVec 32 := Scalar.addi v29 v83
  let v85 : Index := Scalar.indexCast v84
  ![v85.toNat]

def k0_chk8 (v86 : IVec S16 32) : Prop :=
  (∀ a x, ((![v86] : Fin 1 → IVec S16 32) a x).toNat < S100000.size a)
theorem k0_idx8_inb : ∀ (v86 : IVec S16 32) (k0_hw8 : k0_chk8 v86), ∀ a x, ((![v86] : Fin 1 → IVec S16 32) a x).toNat < S100000.size a := fun v86 k0_hw8 => k0_hw8
def k0_off18 (k0_t3 : Fin k0_t3_loop.trips) : Fin 1 → Nat :=
  let c0_i32_16 : BitVec 32 := 0#32
  let c1_i32_18 : BitVec 32 := 1#32
  let arg11 : BitVec 32 := Scf.iv c0_i32_16 c1_i32_18 k0_t3
  let c128_i32 : BitVec 32 := 128#32
  let v32 : BitVec 32 := Scalar.muli arg11 c128_i32
  let v33 : BitVec 32 := v32
  let c112_i32 : BitVec 32 := 112#32
  let v83 : BitVec 32 := Scalar.addi v33 c112_i32
  let v88 : Index := Scalar.indexCast v83
  ![v88.toNat]
def k0_off19 (i : grid0.Coords) (k0_t1 : Fin k0_t1_loop.trips) (k0_t2 : Fin k0_t2_loop.trips) : Fin 2 → Nat :=
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c0_i32_2 v2
  let c0_i32 : BitVec 32 := 0#32
  let c1_i32 : BitVec 32 := 1#32
  let arg8 : BitVec 32 := Scf.iv c0_i32 c1_i32 k0_t1
  let v6 : BitVec 32 := Scalar.addi v5 arg8
  let c0_i32_20 : BitVec 32 := 0#32
  let v31 : BitVec 32 := Scalar.subi v6 c0_i32_20
  let c0_i32_11 : BitVec 32 := 0#32
  let c1_i32_13 : BitVec 32 := 1#32
  let arg10 : BitVec 32 := Scf.iv c0_i32_11 c1_i32_13 k0_t2
  let c8192_i32 : BitVec 32 := 8192#32
  let v28 : BitVec 32 := Scalar.muli arg10 c8192_i32
  let v29 : BitVec 32 := v28
  ![v31.toNat, v29.toNat]
abbrev grid1 : Pipeline.Grid := ⟨2, ![2, 16], ![false, false]⟩

@[reducible] def k1_t1_loop : Scf.Loop 32 :=
  let c0_i32 : BitVec 32 := 0#32
  let c26_i32_0 : BitVec 32 := 26#32
  let v3 : BitVec 32 := Scalar.addi c0_i32 c26_i32_0
  let c1_i32 : BitVec 32 := 1#32
  ⟨c0_i32, v3, c1_i32⟩
def k1_off1 (i : grid1.Coords) (k1_t1 : Fin k1_t1_loop.trips) : Fin 2 → Nat :=
  let c832_i32 : BitVec 32 := 832#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c832_i32 v2
  let c0_i32 : BitVec 32 := 0#32
  let c1_i32 : BitVec 32 := 1#32
  let arg8 : BitVec 32 := Scf.iv c0_i32 c1_i32 k1_t1
  let v6 : BitVec 32 := Scalar.addi v5 arg8
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c64_i32 : BitVec 32 := 64#32
  let c0_i32_4 : BitVec 32 := 0#32
  let v13 : BitVec 1 := Scalar.cmpi .sgt c64_i32 c0_i32_4
  let v14 : BitVec 32 := Scalar.extui v13
  let c0_i32_5 : BitVec 32 := 0#32
  let v15 : BitVec 1 := Scalar.cmpi .slt c64_i32 c0_i32_5
  let v16 : BitVec 32 := Scalar.extui v15
  let v17 : BitVec 32 := Scalar.subi v14 v16
  let v18 : BitVec 1 := Scalar.cmpi .ne v12 v17
  let v19 : BitVec 32 := Scalar.remsi v6 c64_i32
  let c0_i32_6 : BitVec 32 := 0#32
  let v20 : BitVec 1 := Scalar.cmpi .ne v19 c0_i32_6
  let v21 : BitVec 1 := Scalar.andi v18 v20
  let v7 : BitVec 32 := Scalar.divsi v6 c64_i32
  let c1_i32_7 : BitVec 32 := 1#32
  let v22 : BitVec 32 := Scalar.subi v7 c1_i32_7
  let v23 : BitVec 32 := Scalar.select v21 v22 v7
  let c0_i32_14_r0 : BitVec 32 := 0#32
  ![v23.toNat, 0]
def k1_off2 (i : grid1.Coords) (k1_t1 : Fin k1_t1_loop.trips) : Fin 2 → Nat :=
  let c832_i32 : BitVec 32 := 832#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c832_i32 v2
  let c0_i32 : BitVec 32 := 0#32
  let c1_i32 : BitVec 32 := 1#32
  let arg8 : BitVec 32 := Scf.iv c0_i32 c1_i32 k1_t1
  let v6 : BitVec 32 := Scalar.addi v5 arg8
  let c0_i32_14_r1 : BitVec 32 := 0#32
  ![v6.toNat, 0]
@[reducible] def k1_t2_loop : Scf.Loop 32 :=
  let c0_i32_10 : BitVec 32 := 0#32
  let c2_i32_11 : BitVec 32 := 2#32
  let v27 : BitVec 32 := Scalar.addi c0_i32_10 c2_i32_11
  let c1_i32_12 : BitVec 32 := 1#32
  ⟨c0_i32_10, v27, c1_i32_12⟩
def k1_mult1 (k1_t2 : Fin k1_t2_loop.trips) : BitVec 32 :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  v28
@[reducible] def k1_t3_loop : Scf.Loop 32 :=
  let c0_i32_15 : BitVec 32 := 0#32
  let c64_i32_16 : BitVec 32 := 64#32
  let v30 : BitVec 32 := Scalar.addi c0_i32_15 c64_i32_16
  let c1_i32_17 : BitVec 32 := 1#32
  ⟨c0_i32_15, v30, c1_i32_17⟩
def k1_mult2 (k1_t3 : Fin k1_t3_loop.trips) : BitVec 32 :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  v32
def k1_off3 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c0_i32_20 : BitVec 32 := 0#32
  let v34 : BitVec 32 := Scalar.addi v33 c0_i32_20
  let v35 : BitVec 32 := Scalar.addi v29 v34
  let v36 : Index := Scalar.indexCast v35
  ![v36.toNat]

def k1_chk1 (v37 : IVec S16 32) : Prop :=
  (∀ a x, ((![v37] : Fin 1 → IVec S16 32) a x).toNat < S100000.size a)
theorem k1_idx1_inb : ∀ (v37 : IVec S16 32) (k1_hw1 : k1_chk1 v37), ∀ a x, ((![v37] : Fin 1 → IVec S16 32) a x).toNat < S100000.size a := fun v37 k1_hw1 => k1_hw1
def k1_off4 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c0_i32_20 : BitVec 32 := 0#32
  let v34 : BitVec 32 := Scalar.addi v33 c0_i32_20
  let v39 : Index := Scalar.indexCast v34
  ![v39.toNat]
def k1_off5 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c16_i32 : BitVec 32 := 16#32
  let v41 : BitVec 32 := Scalar.addi v33 c16_i32
  let v42 : BitVec 32 := Scalar.addi v29 v41
  let v43 : Index := Scalar.indexCast v42
  ![v43.toNat]

def k1_chk2 (v44 : IVec S16 32) : Prop :=
  (∀ a x, ((![v44] : Fin 1 → IVec S16 32) a x).toNat < S100000.size a)
theorem k1_idx2_inb : ∀ (v44 : IVec S16 32) (k1_hw2 : k1_chk2 v44), ∀ a x, ((![v44] : Fin 1 → IVec S16 32) a x).toNat < S100000.size a := fun v44 k1_hw2 => k1_hw2
def k1_off6 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c16_i32 : BitVec 32 := 16#32
  let v41 : BitVec 32 := Scalar.addi v33 c16_i32
  let v46 : Index := Scalar.indexCast v41
  ![v46.toNat]
def k1_off7 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c32_i32 : BitVec 32 := 32#32
  let v48 : BitVec 32 := Scalar.addi v33 c32_i32
  let v49 : BitVec 32 := Scalar.addi v29 v48
  let v50 : Index := Scalar.indexCast v49
  ![v50.toNat]

def k1_chk3 (v51 : IVec S16 32) : Prop :=
  (∀ a x, ((![v51] : Fin 1 → IVec S16 32) a x).toNat < S100000.size a)
theorem k1_idx3_inb : ∀ (v51 : IVec S16 32) (k1_hw3 : k1_chk3 v51), ∀ a x, ((![v51] : Fin 1 → IVec S16 32) a x).toNat < S100000.size a := fun v51 k1_hw3 => k1_hw3
def k1_off8 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c32_i32 : BitVec 32 := 32#32
  let v48 : BitVec 32 := Scalar.addi v33 c32_i32
  let v53 : Index := Scalar.indexCast v48
  ![v53.toNat]
def k1_off9 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c48_i32 : BitVec 32 := 48#32
  let v55 : BitVec 32 := Scalar.addi v33 c48_i32
  let v56 : BitVec 32 := Scalar.addi v29 v55
  let v57 : Index := Scalar.indexCast v56
  ![v57.toNat]

def k1_chk4 (v58 : IVec S16 32) : Prop :=
  (∀ a x, ((![v58] : Fin 1 → IVec S16 32) a x).toNat < S100000.size a)
theorem k1_idx4_inb : ∀ (v58 : IVec S16 32) (k1_hw4 : k1_chk4 v58), ∀ a x, ((![v58] : Fin 1 → IVec S16 32) a x).toNat < S100000.size a := fun v58 k1_hw4 => k1_hw4
def k1_off10 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c48_i32 : BitVec 32 := 48#32
  let v55 : BitVec 32 := Scalar.addi v33 c48_i32
  let v60 : Index := Scalar.indexCast v55
  ![v60.toNat]
def k1_off11 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c64_i32_21 : BitVec 32 := 64#32
  let v62 : BitVec 32 := Scalar.addi v33 c64_i32_21
  let v63 : BitVec 32 := Scalar.addi v29 v62
  let v64 : Index := Scalar.indexCast v63
  ![v64.toNat]

def k1_chk5 (v65 : IVec S16 32) : Prop :=
  (∀ a x, ((![v65] : Fin 1 → IVec S16 32) a x).toNat < S100000.size a)
theorem k1_idx5_inb : ∀ (v65 : IVec S16 32) (k1_hw5 : k1_chk5 v65), ∀ a x, ((![v65] : Fin 1 → IVec S16 32) a x).toNat < S100000.size a := fun v65 k1_hw5 => k1_hw5
def k1_off12 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c64_i32_21 : BitVec 32 := 64#32
  let v62 : BitVec 32 := Scalar.addi v33 c64_i32_21
  let v67 : Index := Scalar.indexCast v62
  ![v67.toNat]
def k1_off13 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c80_i32 : BitVec 32 := 80#32
  let v69 : BitVec 32 := Scalar.addi v33 c80_i32
  let v70 : BitVec 32 := Scalar.addi v29 v69
  let v71 : Index := Scalar.indexCast v70
  ![v71.toNat]

def k1_chk6 (v72 : IVec S16 32) : Prop :=
  (∀ a x, ((![v72] : Fin 1 → IVec S16 32) a x).toNat < S100000.size a)
theorem k1_idx6_inb : ∀ (v72 : IVec S16 32) (k1_hw6 : k1_chk6 v72), ∀ a x, ((![v72] : Fin 1 → IVec S16 32) a x).toNat < S100000.size a := fun v72 k1_hw6 => k1_hw6
def k1_off14 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c80_i32 : BitVec 32 := 80#32
  let v69 : BitVec 32 := Scalar.addi v33 c80_i32
  let v74 : Index := Scalar.indexCast v69
  ![v74.toNat]
def k1_off15 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c96_i32 : BitVec 32 := 96#32
  let v76 : BitVec 32 := Scalar.addi v33 c96_i32
  let v77 : BitVec 32 := Scalar.addi v29 v76
  let v78 : Index := Scalar.indexCast v77
  ![v78.toNat]

def k1_chk7 (v79 : IVec S16 32) : Prop :=
  (∀ a x, ((![v79] : Fin 1 → IVec S16 32) a x).toNat < S100000.size a)
theorem k1_idx7_inb : ∀ (v79 : IVec S16 32) (k1_hw7 : k1_chk7 v79), ∀ a x, ((![v79] : Fin 1 → IVec S16 32) a x).toNat < S100000.size a := fun v79 k1_hw7 => k1_hw7
def k1_off16 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c96_i32 : BitVec 32 := 96#32
  let v76 : BitVec 32 := Scalar.addi v33 c96_i32
  let v81 : Index := Scalar.indexCast v76
  ![v81.toNat]
def k1_off17 (k1_t2 : Fin k1_t2_loop.trips) (k1_t3 : Fin k1_t3_loop.trips) : Fin 1 → Nat :=
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c112_i32 : BitVec 32 := 112#32
  let v83 : BitVec 32 := Scalar.addi v33 c112_i32
  let v84 : BitVec 32 := Scalar.addi v29 v83
  let v85 : Index := Scalar.indexCast v84
  ![v85.toNat]

def k1_chk8 (v86 : IVec S16 32) : Prop :=
  (∀ a x, ((![v86] : Fin 1 → IVec S16 32) a x).toNat < S100000.size a)
theorem k1_idx8_inb : ∀ (v86 : IVec S16 32) (k1_hw8 : k1_chk8 v86), ∀ a x, ((![v86] : Fin 1 → IVec S16 32) a x).toNat < S100000.size a := fun v86 k1_hw8 => k1_hw8
def k1_off18 (k1_t3 : Fin k1_t3_loop.trips) : Fin 1 → Nat :=
  let c0_i32_15 : BitVec 32 := 0#32
  let c1_i32_17 : BitVec 32 := 1#32
  let arg11 : BitVec 32 := Scf.iv c0_i32_15 c1_i32_17 k1_t3
  let c128_i32 : BitVec 32 := 128#32
  let v32 : BitVec 32 := Scalar.muli arg11 c128_i32
  let v33 : BitVec 32 := v32
  let c112_i32 : BitVec 32 := 112#32
  let v83 : BitVec 32 := Scalar.addi v33 c112_i32
  let v88 : Index := Scalar.indexCast v83
  ![v88.toNat]
def k1_off19 (i : grid1.Coords) (k1_t1 : Fin k1_t1_loop.trips) (k1_t2 : Fin k1_t2_loop.trips) : Fin 2 → Nat :=
  let c832_i32 : BitVec 32 := 832#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c26_i32 : BitVec 32 := 26#32
  let v2 : BitVec 32 := Scalar.muli v1 c26_i32
  let v5 : BitVec 32 := Scalar.addi c832_i32 v2
  let c0_i32 : BitVec 32 := 0#32
  let c1_i32 : BitVec 32 := 1#32
  let arg8 : BitVec 32 := Scf.iv c0_i32 c1_i32 k1_t1
  let v6 : BitVec 32 := Scalar.addi v5 arg8
  let c832_i32_19 : BitVec 32 := 832#32
  let v31 : BitVec 32 := Scalar.subi v6 c832_i32_19
  let c0_i32_10 : BitVec 32 := 0#32
  let c1_i32_12 : BitVec 32 := 1#32
  let arg10 : BitVec 32 := Scf.iv c0_i32_10 c1_i32_12 k1_t2
  let c8192_i32 : BitVec 32 := 8192#32
  let v28 : BitVec 32 := Scalar.muli arg10 c8192_i32
  let v29 : BitVec 32 := v28
  ![v31.toNat, v29.toNat]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S832x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S832x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S832x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S832x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1024x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S512x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S256x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S1024x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S26x100000x64 : Shape := ⟨3, ![26, 100000, 64]⟩
abbrev S1677x1024 : Shape := ⟨2, ![1677, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x2 : Shape := ⟨2, ![256, 2]⟩
abbrev S2 : Shape := ⟨1, ![2]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x64 : Shape := ⟨3, ![26, 16384, 64]⟩
abbrev S16384x26x64 : Shape := ⟨3, ![16384, 26, 64]⟩
abbrev S16384x1664 : Shape := ⟨2, ![16384, 1664]⟩
abbrev S16384x1677 : Shape := ⟨2, ![16384, 1677]⟩
abbrev S16384x1024 : Shape := ⟨2, ![16384, 1024]⟩
abbrev S1x1024 : Shape := ⟨2, ![1, 1024]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x2 : Shape := ⟨2, ![16384, 2]⟩
abbrev S1x2 : Shape := ⟨2, ![1, 2]⟩

abbrev nBuf : Space → Nat
  | .hbm => 72
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x64, .f32⟩
  | .hbm, ⟨3, _⟩ => ⟨S1677x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S26x16384, .i32⟩
  | .hbm, ⟨21, _⟩ => ⟨S26x16384x1, .i32⟩
  | .hbm, ⟨22, _⟩ => ⟨S1, .i32⟩
  | .hbm, ⟨23, _⟩ => ⟨S_, .i32⟩
  | .hbm, ⟨24, _⟩ => ⟨S26x16384x1, .i32⟩
  | .hbm, ⟨25, _⟩ => ⟨S26x16384x1, .i1⟩
  | .hbm, ⟨26, _⟩ => ⟨S1x1x1, .i32⟩
  | .hbm, ⟨27, _⟩ => ⟨S26x16384x1, .i32⟩
  | .hbm, ⟨28, _⟩ => ⟨S26x16384x1, .i1⟩
  | .hbm, ⟨29, _⟩ => ⟨S26x16384x1, .i1⟩
  | .hbm, ⟨30, _⟩ => ⟨S_, .i1⟩
  | .hbm, ⟨31, _⟩ => ⟨S26x16384, .i1⟩
  | .hbm, ⟨32, _⟩ => ⟨S26x16384x64, .f32⟩
  | .hbm, ⟨33, _⟩ => ⟨S26x16384x64, .i1⟩
  | .hbm, ⟨34, _⟩ => ⟨S_, .f32⟩
  | .hbm, ⟨35, _⟩ => ⟨S26x16384x64, .f32⟩
  | .hbm, ⟨36, _⟩ => ⟨S26x16384x64, .f32⟩
  | .hbm, ⟨37, _⟩ => ⟨S16384x26x64, .f32⟩
  | .hbm, ⟨38, _⟩ => ⟨S16384x1664, .f32⟩
  | .hbm, ⟨39, _⟩ => ⟨S16384x1677, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x512, .f32⟩
  | .hbm, ⟨55, _⟩ => ⟨S1x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384x512, .f32⟩
  | .hbm, ⟨60, _⟩ => ⟨S16384x512, .f32⟩
  | .hbm, ⟨61, _⟩ => ⟨S16384x256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S_, .f32⟩
  | .hbm, ⟨66, _⟩ => ⟨S16384x256, .f32⟩
  | .hbm, ⟨67, _⟩ => ⟨S16384x256, .f32⟩
  | .hbm, ⟨68, _⟩ => ⟨S16384x2, .f32⟩
  | .hbm, ⟨69, _⟩ => ⟨S1x2, .f32⟩
  | .hbm, ⟨70, _⟩ => ⟨S16384x2, .f32⟩
  | .hbm, ⟨71, _⟩ => ⟨S16384x2, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_3 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_cst : Ref sig .tc := ⟨.hbm, 34, rfl⟩
abbrev main_call0_v16 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_call1_cst : Ref sig .tc := ⟨.hbm, 44, rfl⟩
abbrev main_call1_v0 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_call2_cst : Ref sig .tc := ⟨.hbm, 51, rfl⟩
abbrev main_call2_v0 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_call3_cst : Ref sig .tc := ⟨.hbm, 58, rfl⟩
abbrev main_call3_v0 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call4_cst : Ref sig .tc := ⟨.hbm, 65, rfl⟩
abbrev main_call4_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Proof.Common.lean ====
/-
  The program of the embedding lookup as the launch theorem of a SparseCore program sees it: its label signature, the
  handshake configuration of its two SparseCore calls, the facts about its semaphores, and the resource algebra of the
  proof. The algebra has three parts: the rounds of the SparseCore handshakes, the rounds of the two TensorCore
  pipelines' staging buffers, and the counters of the tiles' local transfers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program below the SparseCore layer: the two pipelines' over the kernels'. -/
abbrev ΛP : Labels := Pipeline.Sig Λ₀ (Fin 2) fun p => (pcfgs (F := F) p).Adm
/-- The handshake configuration of the two SparseCore calls. -/
abbrev K : SparseCore.Cfg τ sig (ΛP (F := F)) 2 := sc (F := F)
/-- The definitions below the SparseCore layer. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := by
  match q with
  | 0 => rfl
  | 1 => rfl
theorem nCore_eq (q : Fin 2) : (K (F := F)).nCore q = 2 := by
  match q with
  | 0 => rfl
  | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The rounds of the SparseCore handshakes. -/
abbrev UH : Type := URounds (GSem nD τ sig) ℕ
/-- The rounds of the pipelines' staging buffers. -/
abbrev UPi : Type := URounds (GSem nD τ sig) Unit
abbrev UU : Type := UH × (UPi × Counters)

local notation "𝕄" => MT nD τ sig (HIx 2) (Elt F) ℕ UU ℕ

/-- The handshakes' rounds in the whole algebra. -/
abbrev EH : Emb UH (MT nD τ sig (HIx 2) (Elt F) ℕ UU ℕ) := embL
/-- The pipelines' rounds in the whole algebra. -/
abbrev EP : Emb UPi (MT nD τ sig (HIx 2) (Elt F) ℕ UU ℕ) :=
  ((Emb.inl : Emb UPi (UPi × Counters)).trans (Emb.inr : Emb (UPi × Counters) UU)).trans (uEmb : UEmb UU (MT nD τ sig (HIx 2) (Elt F) ℕ UU ℕ)).toEmb

instance EP_lands : (EP (F := F)).LandsIn (upEmb : UEmb _ (MT nD τ sig (HIx 2) (Elt F) ℕ UU ℕ)) := by infer_instance

end Cert.Proof
-- ==== Proof.Tile.lean ====
/-
  One tile's task of the two gather calls. The task copies rows of the transposed index array and of the transposed
  table into tile memory, and for each row of its part of the output gathers the table row's elements at the indices,
  sixteen at a time, into a block of 8192 elements, which it copies to the output row. The two calls run the same task
  at different first rows (0 and 832); the proof is stated once, over the offsets the task computes.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## What a gather call computes -/

/-- Element `(p, b)` of the gather from row `lo` on: row `lo + p` of the table at the index the array `X` holds for field
    `(lo + p) / 64` and batch row `b`. -/
def gathAt (lo : ℕ) (X : S26x16384.Idx → BitVec 32) (A : S1664x100000.Idx → Elt F .f32) (p : ℕ) (b : Fin 16384) : Elt F .f32 :=
  A (ix2 (Fin.ofNat 1664 (lo + p)) (Fin.ofNat 100000 (X (ix2 (Fin.ofNat 26 ((lo + p) / 64)) b)).toNat))

/-- The gather from row `lo` on. -/
def gath (lo : ℕ) (X : S26x16384.Idx → BitVec 32) (A : S1664x100000.Idx → Elt F .f32) : S832x16384.Idx → Elt F .f32 := fun y =>
  gathAt lo X A (y 0).val (y 1)

/-- The first `n` elements of a block of 8192 hold the gather of row `R` at the indices `I` from position `b` on. -/
def BlockTo (R : S100000.Idx → Elt F .f32) (I : S16384.Idx → BitVec 32) (b n : ℕ) (x : S8192.Idx → Elt F .f32) : Prop :=
  ∀ y : S8192.Idx, (y 0).val < n → x y = R (ix1 (Fin.ofNat 100000 (I (ix1 (Fin.ofNat 16384 (b + (y 0).val)))).toNat))

section Prog

variable [FloatOps F] (c : Fin τ.nSC) (j : Fin τ.nSub)
  (arg2 : Memref sig .scVector .hbm S26x16384 .i32) (harg2 : arg2.IsWhole) (arg3 : Memref sig .scVector .hbm S1664x100000 .f32) (harg3 : arg3.IsWhole)
  (arg4 : Memref sig .scVector .hbm S832x16384 .f32) (harg4 : arg4.IsWhole) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

/-! ## The task, over its offsets -/

/-- Sixteen elements: load sixteen indices, gather the row at them, store the result. -/
def group (oi : Fin 1 → ℕ) (hi : ∀ a, oi a + S16.size a ≤ S16384.size a) (ov : Fin 1 → ℕ) (hv : ∀ a, ov a + S16.size a ≤ S8192.size a) :
    Prog (TpuEff nD τ sig (Elt F) Λ₀ (.scVector c j)) PUnit := do
  let v : Vec F S16 .i32 ← Prog.lift (.load arg6 (Rect.unit (s := S16384) oi S16.size hi).toLoadRect (View.loadsAt_vmem h_S16))
  have hw : k0_chk1 v := (← Prog.lift (TpuEff.assume (k0_chk1 v) (k0_chk1.dec v))).down
  let x : Vec F S16 .f32 ← SparseCore.vectorLoadIdx arg5 ![v] (k0_idx1_inb v hw) (View.loads_vmem h_S100000)
  let _ : Vec F S16 .f32 ← Prog.lift (.load arg7 (Rect.unit (s := S8192) ov S16.size hv).toLoadRect (View.loadsAt_vmem h_S16))
  Prog.lift (.store arg7 (Rect.unit (s := S8192) ov S16.size hv) x Finset.univ (View.stores_vmem_bits_univ h_S16 rfl) (.inl rfl))

/-- One trip of the innermost loop: eight groups. -/
def trip3 (u : Fin k0_t2_loop.trips) (g : Fin k0_t3_loop.trips) : Prog (TpuEff nD τ sig (Elt F) Λ₀ (.scVector c j)) PUnit := do
  group c j arg5 arg6 arg7 (k0_off3 u g) (k0_off3_inb u g) (k0_off4 g) (k0_off4_inb g)
  group c j arg5 arg6 arg7 (k0_off5 u g) (k0_off5_inb u g) (k0_off6 g) (k0_off6_inb g)
  group c j arg5 arg6 arg7 (k0_off7 u g) (k0_off7_inb u g) (k0_off8 g) (k0_off8_inb g)
  group c j arg5 arg6 arg7 (k0_off9 u g) (k0_off9_inb u g) (k0_off10 g) (k0_off10_inb g)
  group c j arg5 arg6 arg7 (k0_off11 u g) (k0_off11_inb u g) (k0_off12 g) (k0_off12_inb g)
  group c j arg5 arg6 arg7 (k0_off13 u g) (k0_off13_inb u g) (k0_off14 g) (k0_off14_inb g)
  group c j arg5 arg6 arg7 (k0_off15 u g) (k0_off15_inb u g) (k0_off16 g) (k0_off16_inb g)
  group c j arg5 arg6 arg7 (k0_off17 u g) (k0_off17_inb u g) (k0_off18 g) (k0_off18_inb g)

/-- A copy and the wait for it. -/
def copyWait {sp sp' : Space} {s : Shape} {e : EltTy} (src : Memref sig .scVector sp s e) (dst : Memref sig .scVector sp' s e) (sm : DmaSem sig)
    (hs : src.view.WordExact) (hd : dst.view.WordExact) (ht : DmaTarget.Typed (nD := nD) (p := Proc.scVector c j) sp (.dma sm) (.here dst)) :
    Prog (TpuEff nD τ sig (Elt F) Λ₀ (.scVector c j)) PUnit := do
  Prog.lift (.enqueueDma src (.here dst) (.dma sm) hs hd ht)
  Prog.lift (.waitDma2 sm src dst hs hd)

/-- One trip of the middle loop: the innermost loop, then the block copied to the output. -/
def trip2 (o : Fin k0_t2_loop.trips → Fin 2 → ℕ) (ho : ∀ u a, o u a + S1x8192.size a ≤ S832x16384.size a) (u : Fin k0_t2_loop.trips) (_ : PUnit) :
    Prog (TpuEff nD τ sig (Elt F) Λ₀ (.scVector c j)) PUnit := do
  Scf.Loop.for k0_t3_loop k0_t3_ok ⟨⟩ (fun g _ => trip3 c j arg5 arg6 arg7 u g)
  copyWait c j arg7 ((arg4.slice (Rect.unit (s := S832x16384) (o u) S1x8192.size (ho u)) (fun _ => rfl)).squeeze S8192 squeezes_S1x8192_S8192)
    r2.sem harg7.wordExact ((View.wordExact_bits rfl).reshape _ _) ⟨Or.inl rfl, trivial⟩

/-- One trip of the outer loop: the index row, when it is another field's than the last trip's; the table row; the
    middle loop. -/
def trip1 (fld : Fin k0_t1_loop.trips → BitVec 32)
    (o1 o2 : Fin k0_t1_loop.trips → Fin 2 → ℕ) (h1 : ∀ t a, o1 t a + S1x16384.size a ≤ S26x16384.size a) (h2 : ∀ t a, o2 t a + S1x100000.size a ≤ S1664x100000.size a)
    (o3 : Fin k0_t1_loop.trips → Fin k0_t2_loop.trips → Fin 2 → ℕ) (h3 : ∀ t u a, o3 t u a + S1x8192.size a ≤ S832x16384.size a)
    (t : Fin k0_t1_loop.trips) (prev : BitVec 32) : Prog (TpuEff nD τ sig (Elt F) Λ₀ (.scVector c j)) (BitVec 32) := do
  if Scalar.cmpi .ne (Scalar.extui (Scalar.cmpi .ne (fld t) prev) : BitVec 32) 0#32 = 1#1 then
    copyWait c j ((arg2.slice (Rect.unit (s := S26x16384) (o1 t) S1x16384.size (h1 t)) (fun _ => rfl)).squeeze S16384 squeezes_S1x16384_S16384) arg6
      r0.sem ((View.wordExact_bits rfl).reshape _ _) harg6.wordExact ⟨Or.inl rfl, trivial⟩
  else pure ⟨⟩
  copyWait c j ((arg3.slice (Rect.unit (s := S1664x100000) (o2 t) S1x100000.size (h2 t)) (fun _ => rfl)).squeeze S100000 squeezes_S1x100000_S100000) arg5
    r1.sem ((View.wordExact_bits rfl).reshape _ _) harg5.wordExact ⟨Or.inl rfl, trivial⟩
  Scf.Loop.for k0_t2_loop k0_t2_ok ⟨⟩ (trip2 c j arg4 arg5 arg6 arg7 harg7 r2 (o3 t) (h3 t))
  pure (fld t)

/-- The task: the outer loop, from no field. -/
def task (fld : Fin k0_t1_loop.trips → BitVec 32)
    (o1 o2 : Fin k0_t1_loop.trips → Fin 2 → ℕ) (h1 : ∀ t a, o1 t a + S1x16384.size a ≤ S26x16384.size a) (h2 : ∀ t a, o2 t a + S1x100000.size a ≤ S1664x100000.size a)
    (o3 : Fin k0_t1_loop.trips → Fin k0_t2_loop.trips → Fin 2 → ℕ) (h3 : ∀ t u a, o3 t u a + S1x8192.size a ≤ S832x16384.size a) :
    Prog (TpuEff nD τ sig (Elt F) Λ₀ (.scVector c j)) PUnit := do
  let _ ← Scf.Loop.for k0_t1_loop k0_t1_ok 4294967295#32 (trip1 c j arg2 arg3 arg4 arg5 harg5 arg6 harg6 arg7 harg7 r0 r1 r2 fld o1 o2 h1 h2 o3 h3)
  pure ⟨⟩

end Prog

/-! ## The printed tasks are this one -/

/-- The first row of the tile's part, as the task computes it. -/
def firstRow (i : grid0.Coords) : BitVec 32 :=
  Scalar.muli (Scalar.addi (Scalar.muli (BitVec.ofNat 32 (i 1).val) 2#32) (BitVec.ofNat 32 (i 0).val)) 26#32

/-- The field of row `lo` + the first row + the trip, as the task computes it: the floor of the quotient by 64. -/
def fieldOf (lo : BitVec 32) (i : grid0.Coords) (t : Fin k0_t1_loop.trips) : BitVec 32 :=
  let v6 : BitVec 32 := Scalar.addi (Scalar.addi lo (firstRow i)) (Scf.iv 0#32 1#32 t)
  let v7 : BitVec 32 := Scalar.divsi v6 64#32
  let v12 : BitVec 32 := Scalar.subi (Scalar.extui (Scalar.cmpi .sgt v6 0#32)) (Scalar.extui (Scalar.cmpi .slt v6 0#32))
  let v17 : BitVec 32 := Scalar.subi (Scalar.extui (Scalar.cmpi .sgt 64#32 0#32)) (Scalar.extui (Scalar.cmpi .slt 64#32 0#32))
  Scalar.select (Scalar.andi (Scalar.cmpi .ne v12 v17) (Scalar.cmpi .ne (Scalar.remsi v6 64#32) 0#32)) (Scalar.subi v7 1#32) v7

section Same

variable [FloatOps F] (i : grid0.Coords)
  (arg2 : Memref sig .scVector .hbm S26x16384 .i32) (harg2 : arg2.IsWhole) (arg3 : Memref sig .scVector .hbm S1664x100000 .f32) (harg3 : arg3.IsWhole)
  (arg4 : Memref sig .scVector .hbm S832x16384 .f32) (harg4 : arg4.IsWhole) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

set_option maxRecDepth 65536 in
theorem t3_first (u : Fin k0_t2_loop.trips) (w : BitVec 32) (g : Fin k0_t3_loop.trips) (x : Unit) :
    k0_t3_body (F := F) i arg2 harg2 arg3 harg3 arg4 harg4 arg5 harg5 arg6 harg6 arg7 harg7 r0 r1 r2 u w g x
      = trip3 ((i 0).castLE hcore0) ((i 1).castLE hsub0) arg5 arg6 arg7 u g := rfl

set_option maxRecDepth 65536 in
theorem t3_second (u : Fin k0_t2_loop.trips) (w : BitVec 32) (g : Fin k0_t3_loop.trips) (x : Unit) :
    k1_t3_body (F := F) i arg2 harg2 arg3 harg3 arg4 harg4 arg5 harg5 arg6 harg6 arg7 harg7 r0 r1 r2 u w g x
      = trip3 ((i 0).castLE hcore0) ((i 1).castLE hsub0) arg5 arg6 arg7 u g := rfl

set_option maxRecDepth 65536 in
/-- The first call's task. -/
theorem task_first :
    cc0__sc_gather_skel (F := F) i arg2 harg2 arg3 harg3 arg4 harg4 arg5 harg5 arg6 harg6 arg7 harg7 r0 r1 r2
      = task ((i 0).castLE hcore0) ((i 1).castLE hsub0) arg2 arg3 arg4 arg5 harg5 arg6 harg6 arg7 harg7 r0 r1 r2 (fieldOf 0#32 i)
          (k0_off1 i) (k0_off2 i) (k0_off1_inb i) (k0_off2_inb i) (k0_off19 i) (k0_off19_inb i) := rfl

set_option maxRecDepth 65536 in
/-- The second call's task. -/
theorem task_second :
    cc1__sc_gather_skel (F := F) i arg2 harg2 arg3 harg3 arg4 harg4 arg5 harg5 arg6 harg6 arg7 harg7 r0 r1 r2
      = task ((i 0).castLE hcore0) ((i 1).castLE hsub0) arg2 arg3 arg4 arg5 harg5 arg6 harg6 arg7 harg7 r0 r1 r2 (fieldOf 832#32 i)
          (k1_off1 i) (k1_off2 i) (k1_off1_inb i) (k1_off2_inb i) (k1_off19 i) (k1_off19_inb i) := rfl

end Same

end Cert.Proof
-- ==== Proof.TileRun.lean ====
/-
  The run of one tile's task: from the buffers it holds to the output rows filled with the gather. Each loop's invariant
  says which part of the block, of the row and of the tile's rows is done.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The offsets -/

theorem off_idx (u : Fin k0_t2_loop.trips) (g : Fin k0_t3_loop.trips) :
    k0_off3 u g 0 = 8192 * u.val + 128 * g.val ∧ k0_off5 u g 0 = 8192 * u.val + (128 * g.val + 16) ∧ k0_off7 u g 0 = 8192 * u.val + (128 * g.val + 32)
      ∧ k0_off9 u g 0 = 8192 * u.val + (128 * g.val + 48) ∧ k0_off11 u g 0 = 8192 * u.val + (128 * g.val + 64) ∧ k0_off13 u g 0 = 8192 * u.val + (128 * g.val + 80)
      ∧ k0_off15 u g 0 = 8192 * u.val + (128 * g.val + 96) ∧ k0_off17 u g 0 = 8192 * u.val + (128 * g.val + 112) := by
  revert u g; decide +kernel

theorem off_val (g : Fin k0_t3_loop.trips) :
    k0_off4 g 0 = 128 * g.val ∧ k0_off6 g 0 = 128 * g.val + 16 ∧ k0_off8 g 0 = 128 * g.val + 32 ∧ k0_off10 g 0 = 128 * g.val + 48
      ∧ k0_off12 g 0 = 128 * g.val + 64 ∧ k0_off14 g 0 = 128 * g.val + 80 ∧ k0_off16 g 0 = 128 * g.val + 96 ∧ k0_off18 g 0 = 128 * g.val + 112 := by
  revert g; decide +kernel

section Run

variable [FloatOps F] (d : Dev nD) (c : Fin τ.nSC) (j : Fin τ.nSub)
  (arg2 : Memref sig .scVector .hbm S26x16384 .i32) (harg2 : arg2.IsWhole) (arg3 : Memref sig .scVector .hbm S1664x100000 .f32) (harg3 : arg3.IsWhole)
  (arg4 : Memref sig .scVector .hbm S832x16384 .f32) (harg4 : arg4.IsWhole) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

/-- A program's run on vector subcore `j` of SparseCore `c`. -/
abbrev wpV {α : Type} (p : Prog (TpuEff nD τ sig (Elt F) Λ₀ (.scVector c j)) α) (Q : α → sProp 𝕄) : sProp 𝕄 :=
  wp frame (wpE (defs₀ (F := F)) 𝒱₀ (V d c j) none) Set.univ p Q

/-! ## Sixteen elements -/

omit [FloatOps F] in
/-- Storing the gather of sixteen more elements extends the filled part of the block. -/
theorem BlockTo.store {R : S100000.Idx → Elt F .f32} {I : S16384.Idx → BitVec 32} {b n : ℕ} (f : Buf (Elt F) (arg7.view.loc (V d c j)))
    (h : BlockTo R I b n (arg7.view.read (Elt F) f)) (ov : Fin 1 → ℕ) (hv : ∀ a, ov a + S16.size a ≤ S8192.size a) (hov : ov 0 = n)
    (w : S16.Idx → Elt F .f32)
    (hw : ∀ x : S16.Idx, w x = R (ix1 (Fin.ofNat 100000 (I (ix1 (Fin.ofNat 16384 (b + n + (x 0).val)))).toNat))) :
    BlockTo R I b (n + 16) (arg7.view.read (Elt F) ((arg7.access (Rect.unit (s := S8192) ov S16.size hv)).write (Elt F) f w Finset.univ)) := by
  intro y hy
  by_cases hn : (y 0).val < n
  · rw [View.read_slice_write_of_not_mem]
    · exact h y hn
    · intro hh
      rw [Rect.map_emb_univ, Rect.mem_set_unit] at hh
      have := (hh 0).1
      omega
  · have e : (Rect.unit (s := S8192) ov S16.size hv).emb (ix1 ⟨(y 0).val - n, by omega⟩) = y := by
      funext a
      match a with
      | ⟨0, _⟩ =>
        apply Fin.ext
        rw [Rect.emb_apply]
        show ov 0 + 1 * ((y 0).val - n) = (y 0).val
        omega
    have := View.read_slice_write_emb (Val := Elt F) (r := Rect.unit (s := S8192) ov S16.size hv) (v := arg7.view) f w (Finset.mem_univ (ix1 ⟨(y 0).val - n, by omega⟩))
    rw [e] at this
    rw [this, hw]
    have e2 : b + n + (((ix1 ⟨(y 0).val - n, by omega⟩ : S16.Idx) 0 : Fin 16) : ℕ) = b + (y 0).val := by
      show b + n + ((y 0).val - n) = _
      omega
    rw [e2]

set_option maxHeartbeats 1000000 in
/-- The run of one group. -/
theorem group_run {R : S100000.Idx → Elt F .f32} {I : S16384.Idx → BitVec 32} (hI : ∀ z, (I z).toNat < 100000)
    (f5 : Buf (Elt F) (arg5.view.loc (V d c j))) (f6 : Buf (Elt F) (arg6.view.loc (V d c j)))
    (h5 : arg5.view.read (Elt F) f5 = R) (h6 : arg6.view.read (Elt F) f6 = I) (b n : ℕ)
    (oi : Fin 1 → ℕ) (hi : ∀ a, oi a + S16.size a ≤ S16384.size a) (ov : Fin 1 → ℕ) (hv : ∀ a, ov a + S16.size a ≤ S8192.size a)
    (hoi : oi 0 = b + n) (hov : ov 0 = n) :
    iprop((arg5.view.loc (V d c j) ↦{fullShare} f5) ∗ (arg6.view.loc (V d c j) ↦{fullShare} f6)
        ∗ ∃ f7, ⌜BlockTo R I b n (arg7.view.read (Elt F) f7)⌝ ∗ (arg7.view.loc (V d c j) ↦{fullShare} f7))
      ⊢ wpV d c j (group c j arg5 arg6 arg7 oi hi ov hv) fun _ =>
        iprop((arg5.view.loc (V d c j) ↦{fullShare} f5) ∗ (arg6.view.loc (V d c j) ↦{fullShare} f6)
          ∗ ∃ f7, ⌜BlockTo R I b (n + 16) (arg7.view.read (Elt F) f7)⌝ ∗ (arg7.view.loc (V d c j) ↦{fullShare} f7)) := by
  have hload : ∀ x : S16.Idx, (arg6.access (Rect.unit (s := S16384) oi S16.size hi)).read (Elt F) f6 x
      = I (ix1 (Fin.ofNat 16384 (b + n + (x 0).val))) := by
    intro x
    show arg6.view.read (Elt F) f6 ((Rect.unit (s := S16384) oi S16.size hi).emb x) = _
    rw [h6]
    congr 1
    funext a
    match a with
    | ⟨0, _⟩ =>
      apply Fin.ext
      rw [Rect.emb_apply]
      have hx : (x 0).val < 16 := (x 0).isLt
      have hle : oi 0 + 16 ≤ 16384 := hi 0
      show oi 0 + 1 * (x 0).val = (b + n + (x 0).val) % 16384
      rw [Nat.mod_eq_of_lt (by omega)]; omega
  have hchk : k0_chk1 ((arg6.access (Rect.unit (s := S16384) oi S16.size hi)).read (Elt F) f6) := by
    intro a x
    match a with
    | ⟨0, _⟩ =>
      show ((arg6.access (Rect.unit (s := S16384) oi S16.size hi)).read (Elt F) f6 x : BitVec 32).toNat < 100000
      rw [hload]; exact hI _
  unfold wpV group
  iintro ⟨H5, H6, %f7, %h7, H7⟩
  iapply (wp_load_rect 𝒱₀ (V d c j) none Set.univ (m := arg6) (r := Rect.unit (s := S16384) oi S16.size hi) (S := Finset.univ) (Finset.subset_univ _)) $$ H6
  iintro H6
  iapply (wp_assume 𝒱₀ (V d c j) none Set.univ hchk)
  iapply (SparseCore.wp_vectorLoadIdx 𝒱₀ (V d c j) none Set.univ (base := arg5) (h := k0_idx1_inb _ hchk) (hl := View.loads_vmem h_S100000) (S := Finset.univ) (Finset.subset_univ _)) $$ H5
  iintro H5
  iapply (wp_load_rect 𝒱₀ (V d c j) none Set.univ (m := arg7) (r := Rect.unit (s := S8192) ov S16.size hv) (S := Finset.univ) (Finset.subset_univ _)) $$ H7
  iintro H7
  iapply (wp_store 𝒱₀ (V d c j) none Set.univ (m := arg7) (r := Rect.unit (s := S8192) ov S16.size hv) (S := Finset.univ) (Finset.subset_univ _)) $$ H7
  iintro H7
  sl_step
  isplitl [H5]; · iexact H5
  isplitl [H6]; · iexact H6
  iexists (arg7.access (Rect.unit (s := S8192) ov S16.size hv)).write (Elt F) f7
    (loadIdx ((arg5.access (.whole S100000)).read (Elt F) f5) ![(arg6.access (Rect.unit (s := S16384) oi S16.size hi)).read (Elt F) f6] (k0_idx1_inb _ hchk)) Finset.univ
  isplitr
  · ipureintro
    refine BlockTo.store d c j arg7 f7 h7 ov hv hov _ fun x => ?_
    show arg5.view.read (Elt F) f5 ((Rect.whole S100000).emb _) = _
    rw [h5]
    congr 1
    funext a
    match a with
    | ⟨0, _⟩ =>
      apply Fin.ext
      rw [Rect.emb_apply]
      show 0 + 1 * ((arg6.access (Rect.unit (s := S16384) oi S16.size hi)).read (Elt F) f6 x : BitVec 32).toNat = (I _).toNat % 100000
      rw [hload, Nat.mod_eq_of_lt (hI _)]; omega
  · iexact H7

/-- The eight groups of one trip fill 128 more elements. -/
theorem trip3_run {R : S100000.Idx → Elt F .f32} {I : S16384.Idx → BitVec 32} (hI : ∀ z, (I z).toNat < 100000)
    (f5 : Buf (Elt F) (arg5.view.loc (V d c j))) (f6 : Buf (Elt F) (arg6.view.loc (V d c j)))
    (h5 : arg5.view.read (Elt F) f5 = R) (h6 : arg6.view.read (Elt F) f6 = I) (u : Fin k0_t2_loop.trips) (g : Fin k0_t3_loop.trips) :
    iprop((arg5.view.loc (V d c j) ↦{fullShare} f5) ∗ (arg6.view.loc (V d c j) ↦{fullShare} f6)
        ∗ ∃ f7, ⌜BlockTo R I (8192 * u.val) (128 * g.val) (arg7.view.read (Elt F) f7)⌝ ∗ (arg7.view.loc (V d c j) ↦{fullShare} f7))
      ⊢ wpV d c j (trip3 c j arg5 arg6 arg7 u g) fun _ =>
        iprop((arg5.view.loc (V d c j) ↦{fullShare} f5) ∗ (arg6.view.loc (V d c j) ↦{fullShare} f6)
          ∗ ∃ f7, ⌜BlockTo R I (8192 * u.val) (128 * (g.val + 1)) (arg7.view.read (Elt F) f7)⌝ ∗ (arg7.view.loc (V d c j) ↦{fullShare} f7)) := by
  obtain ⟨i0, i1, i2, i3, i4, i5, i6, i7⟩ := off_idx u g
  obtain ⟨o0, o1, o2, o3, o4, o5, o6, o7⟩ := off_val g
  have G := fun n => group_run d c j arg5 arg6 arg7 hI f5 f6 h5 h6 (8192 * u.val) n
  unfold wpV trip3
  rw [wp_bind]
  refine (G (128 * g.val) _ (k0_off3_inb u g) _ (k0_off4_inb g) i0 o0).trans (wp_mono frame _ _ fun _ => ?_)
  rw [wp_bind]
  refine (G (128 * g.val + 16) _ (k0_off5_inb u g) _ (k0_off6_inb g) i1 o1).trans (wp_mono frame _ _ fun _ => ?_)
  rw [wp_bind]
  refine (G (128 * g.val + 32) _ (k0_off7_inb u g) _ (k0_off8_inb g) i2 o2).trans (wp_mono frame _ _ fun _ => ?_)
  rw [wp_bind]
  refine (G (128 * g.val + 48) _ (k0_off9_inb u g) _ (k0_off10_inb g) i3 o3).trans (wp_mono frame _ _ fun _ => ?_)
  rw [wp_bind]
  refine (G (128 * g.val + 64) _ (k0_off11_inb u g) _ (k0_off12_inb g) i4 o4).trans (wp_mono frame _ _ fun _ => ?_)
  rw [wp_bind]
  refine (G (128 * g.val + 80) _ (k0_off13_inb u g) _ (k0_off14_inb g) i5 o5).trans (wp_mono frame _ _ fun _ => ?_)
  rw [wp_bind]
  refine (G (128 * g.val + 96) _ (k0_off15_inb u g) _ (k0_off16_inb g) i6 o6).trans (wp_mono frame _ _ fun _ => ?_)
  exact G (128 * g.val + 112) _ (k0_off17_inb u g) _ (k0_off18_inb g) i7 o7

/-- A counted loop by an invariant, at a tile. -/
theorem loop_run {σ : Type} {w : ℕ} (l : Scf.Loop w) (hok : l.OK) (init : σ) (body : Fin l.trips → σ → Prog (TpuEff nD τ sig (Elt F) Λ₀ (.scVector c j)) σ)
    (I : ℕ → σ → sProp 𝕄) (h : ∀ (k : Fin l.trips) (acc : σ), I k.val acc ⊢ wpV d c j (body k acc) (I (k.val + 1))) :
    I 0 init ⊢ wpV d c j (Scf.Loop.for l hok init body) (I l.trips) := by
  iintro HI
  iapply (Scf.wp_for frame (wpE (defs₀ (F := F)) 𝒱₀ (V d c j) none) Set.univ l.lb l.ub l.st hok init body I h)
  isplitl [HI]
  · iexact HI
  · iintro %acc HI; iexact HI

/-- The innermost loop fills the block. -/
theorem loop3_run {R : S100000.Idx → Elt F .f32} {I : S16384.Idx → BitVec 32} (hI : ∀ z, (I z).toNat < 100000)
    (f5 : Buf (Elt F) (arg5.view.loc (V d c j))) (f6 : Buf (Elt F) (arg6.view.loc (V d c j)))
    (h5 : arg5.view.read (Elt F) f5 = R) (h6 : arg6.view.read (Elt F) f6 = I) (u : Fin k0_t2_loop.trips) :
    iprop((arg5.view.loc (V d c j) ↦{fullShare} f5) ∗ (arg6.view.loc (V d c j) ↦{fullShare} f6) ∗ ∃ f7, (arg7.view.loc (V d c j) ↦{fullShare} f7))
      ⊢ wpV d c j (Scf.Loop.for k0_t3_loop k0_t3_ok ⟨⟩ (fun g _ => trip3 c j arg5 arg6 arg7 u g)) fun _ =>
        iprop((arg5.view.loc (V d c j) ↦{fullShare} f5) ∗ (arg6.view.loc (V d c j) ↦{fullShare} f6)
          ∗ ∃ f7, ⌜BlockTo R I (8192 * u.val) 8192 (arg7.view.read (Elt F) f7)⌝ ∗ (arg7.view.loc (V d c j) ↦{fullShare} f7)) := by
  have h := loop_run d c j k0_t3_loop k0_t3_ok (PUnit.unit : Unit) (fun g _ => trip3 c j arg5 arg6 arg7 u g)
    (fun k _ => iprop((arg5.view.loc (V d c j) ↦{fullShare} f5) ∗ (arg6.view.loc (V d c j) ↦{fullShare} f6)
        ∗ ∃ f7, ⌜BlockTo R I (8192 * u.val) (128 * k) (arg7.view.read (Elt F) f7)⌝ ∗ (arg7.view.loc (V d c j) ↦{fullShare} f7)))
    (fun g _ => trip3_run d c j arg5 arg6 arg7 hI f5 f6 h5 h6 u g)
  refine BIBase.Entails.trans ?_ (h.trans (wp_mono frame _ _ fun _ => ?_))
  · iintro ⟨H5, H6, %f7, H7⟩
    isplitl [H5]; · iexact H5
    isplitl [H6]; · iexact H6
    iexists f7
    isplitr
    · ipureintro; intro y hy; omega
    · iexact H7
  · exact .rfl

/-! ## A copy and its wait -/

/-- The thread owes `O`, and has waited, beyond `W`, only on its own copies. -/
def owesX (O : CellTallies nD τ sig (HIx 2)) (W : Waits sig (HIx 2)) : sProp 𝕄 :=
  iprop(∃ W', ⌜∀ p ∈ W', p ∈ W ∨ p.2 = none⌝ ∗ owes (V d c j) O W')

theorem copyWait_run {sp sp' : Space} {s : Shape} {e : EltTy} (src : Memref sig .scVector sp s e) (dst : Memref sig .scVector sp' s e) (sm : DmaSem sig)
    (hs : src.view.WordExact) (hd : dst.view.WordExact) (ht : DmaTarget.Typed (nD := nD) (p := Proc.scVector c j) sp (.dma sm) (.here dst))
    {q : PosShare TreeShare} {Ss : Finset (Idx (src.view.loc (V d c j)))} {Sd : Finset (Idx (dst.view.loc (V d c j)))}
    (hSs : src.view.set ⊆ Ss) (hSd : dst.view.set ⊆ Sd) (hn : 0 < s.numel)
    (fs : Buf (Elt F) (src.view.loc (V d c j))) (fd : Buf (Elt F) (dst.view.loc (V d c j)))
    (O : CellTallies nD τ sig (HIx 2)) (W : Waits sig (HIx 2)) :
    iprop(Transfers.MayWaits (V d c j) (none : HIx 2) O ∗ (src.view.loc (V d c j) ↦[Ss]{q} fs) ∗ (dst.view.loc (V d c j) ↦[Sd]{fullShare} fd)
        ∗ semVal (V d c j, SemLoc.dma sm) 0 ∗ owesX d c j O W)
      ⊢ wpV d c j (copyWait c j src dst sm hs hd ht) fun _ =>
        iprop((src.view.loc (V d c j) ↦[Ss]{q} fs)
          ∗ (dst.view.loc (V d c j) ↦[Sd]{fullShare} dst.view.write (Elt F) fd (src.view.read (Elt F) fs) Finset.univ)
          ∗ semVal (V d c j, SemLoc.dma sm) 0 ∗ owesX d c j O W) := by
  unfold wpV copyWait owesX
  iintro ⟨Hmw, Hs, Hd, Hv, %W', %hW', HO⟩
  ihave Hs' := (pointsTo_split_subset hSs).1 $$ Hs
  icases Hs' with ⟨Hs, Hrest⟩
  iapply (Transfers.wp_dmaLocal countersEmb 𝒱₀ (V d c j) none (none : HIx 2) dst.view.dmaCredit rfl (View.dmaCredit_pos _ hn) hSd) $$ [Hs Hd Hv]
  · isplitl [Hs]; · iexact Hs
    isplitl [Hd]; · iexact Hd
    iexact Hv
  iintro HF
  ihave Hmw' := (Transfers.MayWaits.elim (SemLoc.dma sm)) $$ Hmw
  iapply (Transfers.wp_waitLocalO countersEmb 𝒱₀ (V d c j) none (none : HIx 2) rfl) $$ [HF HO Hmw']
  · isplitl [HF]; · iexact HF
    isplitl [HO]; · iexact HO
    iexact Hmw'
  iintro ⟨⟨Hd, Hs⟩, Hv, HO⟩
  sl_step
  isplitl [Hs Hrest]
  · iapply (pointsTo_split_subset hSs).2
    isplitl [Hs] <;> iassumption
  isplitl [Hd]; · iexact Hd
  isplitl [Hv]; · iexact Hv
  iexists (insert (SemLoc.dma sm, (none : HIx 2)) W')
  isplitr
  · ipureintro; intro p hp
    rcases Finset.mem_insert.mp hp with hp | hp
    · exact .inr (hp ▸ rfl)
    · exact hW' p hp
  · iexact HO

end Run

end Cert.Proof
-- ==== Proof.TileRows.lean ====
/-
  The two outer loops of one tile's task: the output row is filled block by block, and the tile's rows one after another.
-/
module

public import proofs.«01_k».proof.Proof.TileRun

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## Rows of an array -/

/-- Element `x` of the row at `o 0`, from `o 1` on, of a two-axis array. -/
theorem row_emb {n m w : ℕ} [NeZero n] [NeZero m] (o : Fin 2 → ℕ) (h : ∀ a, o a + (⟨2, ![1, w]⟩ : Shape).size a ≤ (⟨2, ![n, m]⟩ : Shape).size a)
    (hq : (⟨1, ![w]⟩ : Shape).numel = (⟨2, ![1, w]⟩ : Shape).numel) (x : (⟨1, ![w]⟩ : Shape).Idx) :
    (Rect.unit (s := ⟨2, ![n, m]⟩) o (⟨2, ![1, w]⟩ : Shape).size h).emb (Shape.reshapeEquiv hq x)
      = ix2 (Fin.ofNat n (o 0)) (Fin.ofNat m (o 1 + (x 0).val)) := by
  have e : Shape.reshapeEquiv hq x = Fin.cons ⟨0, Nat.one_pos⟩ x := Shape.reshapeEquiv_cons_one hq x
  have h0 : o 0 + 1 ≤ n := h 0
  have h1 : o 1 + w ≤ m := h 1
  have hx : (x 0).val < w := (x 0).isLt
  funext a
  match a with
  | ⟨0, _⟩ =>
    apply Fin.ext
    rw [Rect.emb_apply, e]
    show o 0 + 1 * 0 = o 0 % n
    rw [Nat.mod_eq_of_lt (by omega)]; omega
  | ⟨1, _⟩ =>
    apply Fin.ext
    rw [Rect.emb_apply, e]
    show o 1 + 1 * (x 0).val = (o 1 + (x 0).val) % m
    rw [Nat.mod_eq_of_lt (by omega)]; omega

/-- The rows from `p0` to `p`, and the first `n` elements of row `p`, hold what `G` says. -/
def Filled (G : S832x16384.Idx → Elt F .f32) (p0 p n : ℕ) (x : S832x16384.Idx → Elt F .f32) : Prop :=
  ∀ y : S832x16384.Idx, p0 ≤ (y 0).val → ((y 0).val < p ∨ ((y 0).val = p ∧ (y 1).val < n)) → x y = G y

theorem Filled.next {G : S832x16384.Idx → Elt F .f32} {p0 p : ℕ} {x : S832x16384.Idx → Elt F .f32} (h : Filled G p0 p 16384 x) : Filled G p0 (p + 1) 0 x := by
  intro y hy hp
  refine h y hy ?_
  have : (y 1).val < 16384 := (y 1).isLt
  omega

theorem cond_ne (a : BitVec 32) (b : BitVec 32) :
    (Scalar.cmpi .ne (Scalar.extui (Scalar.cmpi .ne a b) : BitVec 32) 0#32 = 1#1) ↔ a ≠ b := by
  by_cases h : a = b
  · subst h; simp [Scalar.cmpi, Scalar.extui, IntOp.cmpi]
  · have e : (a != b) = true := by simp [h]
    simp [Scalar.cmpi, Scalar.extui, IntOp.cmpi, h, e]

section Run

variable [FloatOps F] (d : Dev nD) (c : Fin τ.nSC) (j : Fin τ.nSub)
  (arg2 : Memref sig .scVector .hbm S26x16384 .i32) (harg2 : arg2.IsWhole) (arg3 : Memref sig .scVector .hbm S1664x100000 .f32) (harg3 : arg3.IsWhole)
  (arg4 : Memref sig .scVector .hbm S832x16384 .f32) (harg4 : arg4.IsWhole) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

/-! ## The middle loop -/

/-- The output row's block, as a tile addresses it. -/
abbrev outBlk (o : Fin 2 → ℕ) (ho : ∀ a, o a + S1x8192.size a ≤ S832x16384.size a) : Memref sig .scVector .hbm S8192 .f32 :=
  (arg4.slice (Rect.unit (s := S832x16384) o S1x8192.size ho) (fun _ => rfl)).squeeze S8192 squeezes_S1x8192_S8192

omit [FloatOps F] in
/-- Copying a filled block to its place in the output row extends the filled part of the output. -/
theorem Filled.block {G : S832x16384.Idx → Elt F .f32} {R : S100000.Idx → Elt F .f32} {I : S16384.Idx → BitVec 32} {p0 p b : ℕ}
    (hRI : ∀ y : S832x16384.Idx, (y 0).val = p → G y = R (ix1 (Fin.ofNat 100000 (I (ix1 (y 1))).toNat)))
    (fo : Buf (Elt F) (arg4.view.loc (V d c j))) (hf : Filled G p0 p b (arg4.view.read (Elt F) fo))
    (o : Fin 2 → ℕ) (ho : ∀ a, o a + S1x8192.size a ≤ S832x16384.size a) (h0 : o 0 = p) (h1 : o 1 = b)
    (x : S8192.Idx → Elt F .f32) (hx : BlockTo R I b 8192 x) :
    Filled G p0 p (b + 8192) (arg4.view.read (Elt F) ((outBlk arg4 o ho).view.write (Elt F) fo x Finset.univ)) := by
  have hb : o 1 + 8192 ≤ 16384 := ho 1
  have hp : o 0 + 1 ≤ 832 := ho 0
  intro y hy hyp
  by_cases hin : (y 0).val = p ∧ b ≤ (y 1).val
  · obtain ⟨e0, e1⟩ := hin
    have hlt : (y 1).val - b < 8192 := by omega
    have key := congrFun (View.read_write_univ (Val := Elt F) (v := (outBlk arg4 o ho).view) fo x) (ix1 ⟨(y 1).val - b, hlt⟩)
    have ey : (Rect.unit (s := S832x16384) o S1x8192.size ho).emb (Shape.reshapeEquiv squeezes_S1x8192_S8192.numel_eq (ix1 ⟨(y 1).val - b, hlt⟩)) = y := by
      rw [row_emb]
      funext a
      match a with
      | ⟨0, _⟩ =>
        apply Fin.ext
        show o 0 % 832 = (y 0).val
        rw [Nat.mod_eq_of_lt (by omega)]; omega
      | ⟨1, _⟩ =>
        apply Fin.ext
        show (o 1 + ((y 1).val - b)) % 16384 = (y 1).val
        rw [Nat.mod_eq_of_lt (by omega)]; omega
    have key' : arg4.view.read (Elt F) ((outBlk arg4 o ho).view.write (Elt F) fo x Finset.univ)
        ((Rect.unit (s := S832x16384) o S1x8192.size ho).emb (Shape.reshapeEquiv squeezes_S1x8192_S8192.numel_eq (ix1 ⟨(y 1).val - b, hlt⟩)))
        = x (ix1 ⟨(y 1).val - b, hlt⟩) := key
    rw [ey] at key'
    have e : (Fin.ofNat 16384 (b + ((ix1 ⟨(y 1).val - b, hlt⟩ : S8192.Idx) 0).val)) = y 1 := by
      apply Fin.ext
      show (b + ((y 1).val - b)) % 16384 = (y 1).val
      rw [Nat.mod_eq_of_lt (by omega)]; omega
    rw [key', hRI y e0, hx _ hlt, e]
  · have hne : arg4.view.emb y ∉ (outBlk arg4 o ho).view.setOn Finset.univ := by
      rw [View.setOn_univ]
      show arg4.view.emb y ∉ ((arg4.view.slice (Rect.unit (s := S832x16384) o S1x8192.size ho)).reshape S8192 squeezes_S1x8192_S8192.numel_eq).set
      rw [View.set_reshape, View.set_slice, Finset.mem_map' arg4.view.emb]
      intro hh
      rw [Rect.mem_set_unit] at hh
      have a0 := hh 0
      have a1 := hh 1
      simp only [show S1x8192.size 0 = 1 from rfl] at a0
      omega
    have : arg4.view.read (Elt F) ((outBlk arg4 o ho).view.write (Elt F) fo x Finset.univ) y = arg4.view.read (Elt F) fo y := by
      rw [View.read_apply, View.read_apply]
      exact congrArg (cast _) (View.write_of_not_mem (v := (outBlk arg4 o ho).view) fo x Finset.univ hne)
    rw [this]
    exact hf y hy (by omega)

theorem loop2_run {G : S832x16384.Idx → Elt F .f32} {R : S100000.Idx → Elt F .f32} {I : S16384.Idx → BitVec 32} {p0 p : ℕ}
    (hI : ∀ z, (I z).toNat < 100000)
    (hRI : ∀ y : S832x16384.Idx, (y 0).val = p → G y = R (ix1 (Fin.ofNat 100000 (I (ix1 (y 1))).toNat)))
    (f5 : Buf (Elt F) (arg5.view.loc (V d c j))) (f6 : Buf (Elt F) (arg6.view.loc (V d c j)))
    (h5 : arg5.view.read (Elt F) f5 = R) (h6 : arg6.view.read (Elt F) f6 = I)
    (o : Fin k0_t2_loop.trips → Fin 2 → ℕ) (ho : ∀ u a, o u a + S1x8192.size a ≤ S832x16384.size a)
    (ho0 : ∀ u, o u 0 = p) (ho1 : ∀ u, o u 1 = 8192 * u.val)
    (S4 : Finset (Idx (arg4.view.loc (V d c j)))) (hS4 : ∀ u, (outBlk arg4 (o u) (ho u)).view.set ⊆ S4)
    (O : CellTallies nD τ sig (HIx 2)) (W : Waits sig (HIx 2)) :
    iprop(Transfers.MayWaits (V d c j) (none : HIx 2) O ∗ (arg5.view.loc (V d c j) ↦{fullShare} f5) ∗ (arg6.view.loc (V d c j) ↦{fullShare} f6)
        ∗ (∃ f7, arg7.view.loc (V d c j) ↦{fullShare} f7)
        ∗ (∃ fo, ⌜Filled G p0 p 0 (arg4.view.read (Elt F) fo)⌝ ∗ (arg4.view.loc (V d c j) ↦[S4]{fullShare} fo))
        ∗ semVal (V d c j, SemLoc.dma r2.sem) 0 ∗ owesX d c j O W)
      ⊢ wpV d c j (Scf.Loop.for k0_t2_loop k0_t2_ok ⟨⟩ (trip2 c j arg4 arg5 arg6 arg7 harg7 r2 o ho)) fun _ =>
        iprop(Transfers.MayWaits (V d c j) (none : HIx 2) O ∗ (arg5.view.loc (V d c j) ↦{fullShare} f5) ∗ (arg6.view.loc (V d c j) ↦{fullShare} f6)
          ∗ (∃ f7, arg7.view.loc (V d c j) ↦{fullShare} f7)
          ∗ (∃ fo, ⌜Filled G p0 (p + 1) 0 (arg4.view.read (Elt F) fo)⌝ ∗ (arg4.view.loc (V d c j) ↦[S4]{fullShare} fo))
          ∗ semVal (V d c j, SemLoc.dma r2.sem) 0 ∗ owesX d c j O W) := by
  have h := loop_run d c j k0_t2_loop k0_t2_ok (PUnit.unit : Unit) (trip2 c j arg4 arg5 arg6 arg7 harg7 r2 o ho)
    (fun k _ => iprop(Transfers.MayWaits (V d c j) (none : HIx 2) O ∗ (arg5.view.loc (V d c j) ↦{fullShare} f5) ∗ (arg6.view.loc (V d c j) ↦{fullShare} f6)
        ∗ (∃ f7, arg7.view.loc (V d c j) ↦{fullShare} f7)
        ∗ (∃ fo, ⌜Filled G p0 p (8192 * k) (arg4.view.read (Elt F) fo)⌝ ∗ (arg4.view.loc (V d c j) ↦[S4]{fullShare} fo))
        ∗ semVal (V d c j, SemLoc.dma r2.sem) 0 ∗ owesX d c j O W)) ?_
  · refine BIBase.Entails.trans ?_ (h.trans (wp_mono frame _ _ fun _ => ?_))
    · exact .rfl
    · iintro ⟨Hmw, H5, H6, H7, ⟨%fo, %hf, Ho⟩, Hv, HO⟩
      isplitl [Hmw]; · iexact Hmw
      isplitl [H5]; · iexact H5
      isplitl [H6]; · iexact H6
      isplitl [H7]; · iexact H7
      isplitl [Ho]
      · iexists fo
        isplitr
        · ipureintro; exact Filled.next hf
        · iexact Ho
      isplitl [Hv]; · iexact Hv
      iexact HO
  · intro u _
    unfold wpV trip2
    rw [wp_bind]
    iintro ⟨#Hmw, H5, H6, H7, ⟨%fo, %hf, Ho⟩, Hv, HO⟩
    iapply (wp_wand_r frame (wpE (defs₀ (F := F)) 𝒱₀ (V d c j) none) Set.univ)
    isplitl [H5 H6 H7]
    · iapply (loop3_run d c j arg5 arg6 arg7 hI f5 f6 h5 h6 u)
      isplitl [H5]; · iexact H5
      isplitl [H6]; · iexact H6
      iexact H7
    iintro %_ ⟨H5, H6, %f7, %h7, H7⟩
    iapply (wp_wand_r frame (wpE (defs₀ (F := F)) 𝒱₀ (V d c j) none) Set.univ)
    isplitl [H7 Ho Hv HO]
    · iapply (copyWait_run d c j arg7 (outBlk arg4 (o u) (ho u)) r2.sem harg7.wordExact ((View.wordExact_bits rfl).reshape _ _) ⟨Or.inl rfl, trivial⟩
        (q := fullShare) (Ss := Finset.univ) (Sd := S4) (Finset.subset_univ _) (hS4 u) (by decide) f7 fo O W)
      isplitr; · iexact Hmw
      isplitl [H7]; · iexact H7
      isplitl [Ho]; · iexact Ho
      isplitl [Hv]; · iexact Hv
      iexact HO
    iintro %_ ⟨H7, Ho, Hv, HO⟩
    isplitr; · iexact Hmw
    isplitl [H5]; · iexact H5
    isplitl [H6]; · iexact H6
    isplitl [H7]; · iexists f7; iexact H7
    isplitl [Ho]
    · iexists _
      isplitr
      rotate_left
      · iexact Ho
      · ipureintro
        have := Filled.block d c j arg4 hRI fo hf (o u) (ho u) (ho0 u) (ho1 u) _ h7
        exact this
    isplitl [Hv]; · iexact Hv
    iexact HO

end Run

end Cert.Proof
-- ==== Proof.TileTask.lean ====
/-
  The outer loop of one tile's task and the task itself, and the offsets the two calls' tasks compute.
-/
module

public import proofs.«01_k».proof.Proof.TileRows

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- What the task's offsets say: trip `t` fetches the index row of field `(lo + p0 + t) / 64`, the table row `lo + p0 + t`, and
    writes the output row `p0 + t`. -/
structure Offsets (lo p0 : ℕ) (fld : Fin k0_t1_loop.trips → BitVec 32) (o1 o2 : Fin k0_t1_loop.trips → Fin 2 → ℕ)
    (o3 : Fin k0_t1_loop.trips → Fin k0_t2_loop.trips → Fin 2 → ℕ) : Prop where
  fld_eq : ∀ t, (fld t).toNat = (lo + p0 + t.val) / 64
  o1_row : ∀ t, o1 t 0 = (lo + p0 + t.val) / 64
  o1_col : ∀ t, o1 t 1 = 0
  o2_row : ∀ t, o2 t 0 = lo + p0 + t.val
  o2_col : ∀ t, o2 t 1 = 0
  o3_row : ∀ t u, o3 t u 0 = p0 + t.val
  o3_col : ∀ t u, o3 t u 1 = 8192 * u.val
  le : lo + p0 + 26 ≤ 1664

theorem trips1 : k0_t1_loop.trips = 26 := by decide

section Run

variable [FloatOps F] (d : Dev nD) (c : Fin τ.nSC) (j : Fin τ.nSub)
  (arg2 : Memref sig .scVector .hbm S26x16384 .i32) (harg2 : arg2.IsWhole) (arg3 : Memref sig .scVector .hbm S1664x100000 .f32) (harg3 : arg3.IsWhole)
  (arg4 : Memref sig .scVector .hbm S832x16384 .f32) (harg4 : arg4.IsWhole) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

omit [FloatOps F] in
theorem read_idxRow (o : Fin 2 → ℕ) (h : ∀ a, o a + S1x16384.size a ≤ S26x16384.size a) (f : Buf (Elt F) (arg2.view.loc (V d c j))) (h1 : o 1 = 0) :
    ((arg2.slice (Rect.unit (s := S26x16384) o S1x16384.size h) (fun _ => rfl)).squeeze S16384 squeezes_S1x16384_S16384).view.read (Elt F) f
      = fun z : S16384.Idx => arg2.view.read (Elt F) f (ix2 (Fin.ofNat 26 (o 0)) (z 0)) := by
  funext z
  show arg2.view.read (Elt F) f ((Rect.unit (s := S26x16384) o S1x16384.size h).emb (Shape.reshapeEquiv squeezes_S1x16384_S16384.numel_eq z)) = _
  rw [row_emb, h1]
  congr 2
  apply Fin.ext
  show (0 + (z 0).val) % 16384 = (z 0).val
  have : (z 0).val < 16384 := (z 0).isLt
  rw [Nat.mod_eq_of_lt (by omega)]; omega

omit [FloatOps F] in
theorem read_tabRow (o : Fin 2 → ℕ) (h : ∀ a, o a + S1x100000.size a ≤ S1664x100000.size a) (f : Buf (Elt F) (arg3.view.loc (V d c j))) (h1 : o 1 = 0) :
    ((arg3.slice (Rect.unit (s := S1664x100000) o S1x100000.size h) (fun _ => rfl)).squeeze S100000 squeezes_S1x100000_S100000).view.read (Elt F) f
      = fun z : S100000.Idx => arg3.view.read (Elt F) f (ix2 (Fin.ofNat 1664 (o 0)) (z 0)) := by
  funext z
  show arg3.view.read (Elt F) f ((Rect.unit (s := S1664x100000) o S1x100000.size h).emb (Shape.reshapeEquiv squeezes_S1x100000_S100000.numel_eq z)) = _
  rw [row_emb, h1]
  congr 2
  apply Fin.ext
  show (0 + (z 0).val) % 100000 = (z 0).val
  have : (z 0).val < 100000 := (z 0).isLt
  rw [Nat.mod_eq_of_lt (by omega)]; omega

/-- The outer loop's invariant: before trip `k`, the carried field's index row is in tile memory when there is one, and the
    tile's first `k` rows are filled. -/
def inv1 (lo p0 : ℕ) (X : S26x16384.Idx → BitVec 32) (A : S1664x100000.Idx → Elt F .f32) (q2 q3 : PosShare TreeShare)
    (f2 : Buf (Elt F) (arg2.view.loc (V d c j))) (f3 : Buf (Elt F) (arg3.view.loc (V d c j))) (S4 : Finset (Idx (arg4.view.loc (V d c j))))
    (O : CellTallies nD τ sig (HIx 2)) (W : Waits sig (HIx 2)) (k : ℕ) (acc : BitVec 32) : sProp 𝕄 :=
  iprop(Transfers.MayWaits (V d c j) (none : HIx 2) O
    ∗ (arg2.view.loc (V d c j) ↦{q2} f2) ∗ (arg3.view.loc (V d c j) ↦{q3} f3)
    ∗ (∃ f5, arg5.view.loc (V d c j) ↦{fullShare} f5)
    ∗ (∃ f6, ⌜acc.toNat < 26 → arg6.view.read (Elt F) f6 = fun z : S16384.Idx => X (ix2 (Fin.ofNat 26 acc.toNat) (z 0))⌝ ∗ (arg6.view.loc (V d c j) ↦{fullShare} f6))
    ∗ (∃ f7, arg7.view.loc (V d c j) ↦{fullShare} f7)
    ∗ (∃ fo, ⌜Filled (gath lo X A) p0 (p0 + k) 0 (arg4.view.read (Elt F) fo)⌝ ∗ (arg4.view.loc (V d c j) ↦[S4]{fullShare} fo))
    ∗ semVal (V d c j, SemLoc.dma r0.sem) 0 ∗ semVal (V d c j, SemLoc.dma r1.sem) 0 ∗ semVal (V d c j, SemLoc.dma r2.sem) 0 ∗ owesX d c j O W)

variable {lo p0 : ℕ} {X : S26x16384.Idx → BitVec 32} {A : S1664x100000.Idx → Elt F .f32} (hX : ∀ z, (X z).toNat < 100000)
  {fld : Fin k0_t1_loop.trips → BitVec 32} {o1 o2 : Fin k0_t1_loop.trips → Fin 2 → ℕ}
  (h1 : ∀ t a, o1 t a + S1x16384.size a ≤ S26x16384.size a) (h2 : ∀ t a, o2 t a + S1x100000.size a ≤ S1664x100000.size a)
  {o3 : Fin k0_t1_loop.trips → Fin k0_t2_loop.trips → Fin 2 → ℕ} (h3 : ∀ t u a, o3 t u a + S1x8192.size a ≤ S832x16384.size a)
  (hoff : Offsets lo p0 fld o1 o2 o3) (q2 q3 : PosShare TreeShare)
  (f2 : Buf (Elt F) (arg2.view.loc (V d c j))) (f3 : Buf (Elt F) (arg3.view.loc (V d c j)))
  (hf2 : arg2.view.read (Elt F) f2 = X) (hf3 : arg3.view.read (Elt F) f3 = A)
  (S4 : Finset (Idx (arg4.view.loc (V d c j)))) (hS4 : ∀ t u, (outBlk arg4 (o3 t u) (h3 t u)).view.set ⊆ S4)
  (O : CellTallies nD τ sig (HIx 2)) (W : Waits sig (HIx 2))

include hX hoff hf2 hf3 hS4 in
/-- From the index row on: the table row, the middle loop. -/
theorem trip1_rest (t : Fin k0_t1_loop.trips) :
    inv1 d c j arg2 arg3 arg4 arg5 arg6 arg7 r0 r1 r2 lo p0 X A q2 q3 f2 f3 S4 O W t.val (fld t)
      ⊢ wpV d c j (do
          copyWait c j ((arg3.slice (Rect.unit (s := S1664x100000) (o2 t) S1x100000.size (h2 t)) (fun _ => rfl)).squeeze S100000 squeezes_S1x100000_S100000) arg5
            r1.sem ((View.wordExact_bits rfl).reshape _ _) harg5.wordExact ⟨Or.inl rfl, trivial⟩
          Scf.Loop.for k0_t2_loop k0_t2_ok ⟨⟩ (trip2 c j arg4 arg5 arg6 arg7 harg7 r2 (o3 t) (h3 t))
          pure (fld t))
        (inv1 d c j arg2 arg3 arg4 arg5 arg6 arg7 r0 r1 r2 lo p0 X A q2 q3 f2 f3 S4 O W (t.val + 1)) := by
  have ht : t.val < 26 := trips1 ▸ t.isLt
  have hle := hoff.le
  have hRI : ∀ y : S832x16384.Idx, (y 0).val = p0 + t.val → gath lo X A y
      = (fun z : S100000.Idx => A (ix2 (Fin.ofNat 1664 (lo + p0 + t.val)) (z 0)))
          (ix1 (Fin.ofNat 100000 ((fun z : S16384.Idx => X (ix2 (Fin.ofNat 26 ((lo + p0 + t.val) / 64)) (z 0))) (ix1 (y 1))).toNat)) := by
    intro y hy
    rw [show gath lo X A y = gathAt lo X A (y 0).val (y 1) from rfl, hy]
    unfold gathAt
    rw [← Nat.add_assoc]
    rfl
  unfold wpV
  rw [wp_bind]
  unfold inv1
  iintro ⟨#Hmw, H2, H3, ⟨%f5, H5⟩, ⟨%f6, %h6, H6⟩, H7, Ho, Hv0, Hv1, Hv2, HO⟩
  iapply (wp_wand_r frame (wpE (defs₀ (F := F)) 𝒱₀ (V d c j) none) Set.univ)
  isplitl [H3 H5 Hv1 HO]
  · iapply (copyWait_run d c j ((arg3.slice (Rect.unit (s := S1664x100000) (o2 t) S1x100000.size (h2 t)) (fun _ => rfl)).squeeze S100000 squeezes_S1x100000_S100000) arg5
      r1.sem ((View.wordExact_bits rfl).reshape _ _) harg5.wordExact ⟨Or.inl rfl, trivial⟩
      (q := q3) (Ss := Finset.univ) (Sd := Finset.univ) (Finset.subset_univ _) (Finset.subset_univ _) (by decide) f3 f5 O W)
    isplitr; · iexact Hmw
    isplitl [H3]; · iexact H3
    isplitl [H5]; · iexact H5
    isplitl [Hv1]; · iexact Hv1
    iexact HO
  iintro %_ ⟨H3, H5, Hv1, HO⟩
  rw [wp_bind]
  have hrow : (lo + p0 + t.val) / 64 < 26 := by omega
  have e6 := h6 (by rw [hoff.fld_eq]; exact hrow)
  rw [hoff.fld_eq] at e6
  have e5 : arg5.view.read (Elt F) (arg5.view.write (Elt F) f5
      (((arg3.slice (Rect.unit (s := S1664x100000) (o2 t) S1x100000.size (h2 t)) (fun _ => rfl)).squeeze S100000 squeezes_S1x100000_S100000).view.read (Elt F) f3) Finset.univ)
      = fun z : S100000.Idx => A (ix2 (Fin.ofNat 1664 (lo + p0 + t.val)) (z 0)) := by
    rw [View.read_write_univ, read_tabRow d c j arg3 (o2 t) (h2 t) f3 (hoff.o2_col t), hf3, hoff.o2_row]
  iapply (wp_wand_r frame (wpE (defs₀ (F := F)) 𝒱₀ (V d c j) none) Set.univ)
  isplitl [H5 H6 H7 Ho Hv2 HO]
  · iapply (loop2_run d c j arg4 arg5 arg6 arg7 harg7 r2 (G := gath lo X A) (p0 := p0) (p := p0 + t.val) (fun z => hX _) hRI _ f6 e5 e6
      (o3 t) (h3 t) (hoff.o3_row t) (hoff.o3_col t) S4 (hS4 t) O W)
    isplitr; · iexact Hmw
    isplitl [H5]; · iexact H5
    isplitl [H6]; · iexact H6
    isplitl [H7]; · iexact H7
    isplitl [Ho]; · iexact Ho
    isplitl [Hv2]; · iexact Hv2
    iexact HO
  iintro %_ ⟨-, H5, H6, H7, Ho, Hv2, HO⟩
  sl_step
  isplitr; · iexact Hmw
  isplitl [H2]; · iexact H2
  isplitl [H3]; · iexact H3
  isplitl [H5]; · iexists _; iexact H5
  isplitl [H6]
  · iexists f6
    isplitr
    · ipureintro; intro _; rw [hoff.fld_eq]; exact e6
    · iexact H6
  isplitl [H7]; · iexact H7
  isplitl [Ho]; · iexact Ho
  isplitl [Hv0]; · iexact Hv0
  isplitl [Hv1]; · iexact Hv1
  isplitl [Hv2]; · iexact Hv2
  iexact HO

include hX hoff hf2 hf3 hS4 in
theorem trip1_run (t : Fin k0_t1_loop.trips) (acc : BitVec 32) :
    inv1 d c j arg2 arg3 arg4 arg5 arg6 arg7 r0 r1 r2 lo p0 X A q2 q3 f2 f3 S4 O W t.val acc
      ⊢ wpV d c j (trip1 c j arg2 arg3 arg4 arg5 harg5 arg6 harg6 arg7 harg7 r0 r1 r2 fld o1 o2 h1 h2 o3 h3 t acc)
        (inv1 d c j arg2 arg3 arg4 arg5 arg6 arg7 r0 r1 r2 lo p0 X A q2 q3 f2 f3 S4 O W (t.val + 1)) := by
  have ht : t.val < 26 := trips1 ▸ t.isLt
  have hle := hoff.le
  have rest := trip1_rest d c j arg2 arg3 arg4 arg5 harg5 arg6 arg7 harg7 r0 r1 r2 hX h2 h3 hoff q2 q3 f2 f3 hf2 hf3 S4 hS4 O W t
  unfold trip1
  by_cases he : fld t = acc
  · subst he
    rw [if_neg (fun h => (cond_ne _ _).mp h rfl)]
    exact rest
  · rw [if_pos ((cond_ne _ _).mpr he)]
    unfold wpV at rest ⊢
    rw [wp_bind]
    unfold inv1 at rest ⊢
    iintro ⟨#Hmw, H2, H3, H5, ⟨%f6, %h6, H6⟩, H7, Ho, Hv0, Hv1, Hv2, HO⟩
    iapply (wp_wand_r frame (wpE (defs₀ (F := F)) 𝒱₀ (V d c j) none) Set.univ)
    isplitl [H2 H6 Hv0 HO]
    · iapply (copyWait_run d c j ((arg2.slice (Rect.unit (s := S26x16384) (o1 t) S1x16384.size (h1 t)) (fun _ => rfl)).squeeze S16384 squeezes_S1x16384_S16384) arg6
        r0.sem ((View.wordExact_bits rfl).reshape _ _) harg6.wordExact ⟨Or.inl rfl, trivial⟩
        (q := q2) (Ss := Finset.univ) (Sd := Finset.univ) (Finset.subset_univ _) (Finset.subset_univ _) (by decide) f2 f6 O W)
      isplitr; · iexact Hmw
      isplitl [H2]; · iexact H2
      isplitl [H6]; · iexact H6
      isplitl [Hv0]; · iexact Hv0
      iexact HO
    iintro %_ ⟨H2, H6, Hv0, HO⟩
    iapply rest
    isplitr; · iexact Hmw
    isplitl [H2]; · iexact H2
    isplitl [H3]; · iexact H3
    isplitl [H5]; · iexact H5
    isplitl [H6]
    · iexists _
      isplitr
      rotate_left
      · iexact H6
      · ipureintro; intro _
        rw [View.read_write_univ, read_idxRow d c j arg2 (o1 t) (h1 t) f2 (hoff.o1_col t), hf2, hoff.o1_row, hoff.fld_eq]
    isplitl [H7]; · iexact H7
    isplitl [Ho]; · iexact Ho
    isplitl [Hv0]; · iexact Hv0
    isplitl [Hv1]; · iexact Hv1
    isplitl [Hv2]; · iexact Hv2
    iexact HO

include hX hoff hf2 hf3 hS4 in
/-- The run of the task: it returns what it held, the tile's 26 rows of the output filled with the gather. -/
theorem task_run (f5 : Buf (Elt F) (arg5.view.loc (V d c j))) (f6 : Buf (Elt F) (arg6.view.loc (V d c j)))
    (f7 : Buf (Elt F) (arg7.view.loc (V d c j))) (fo : Buf (Elt F) (arg4.view.loc (V d c j))) :
    iprop(Transfers.MayWaits (V d c j) (none : HIx 2) O
        ∗ (arg2.view.loc (V d c j) ↦{q2} f2) ∗ (arg3.view.loc (V d c j) ↦{q3} f3)
        ∗ (arg5.view.loc (V d c j) ↦{fullShare} f5) ∗ (arg6.view.loc (V d c j) ↦{fullShare} f6) ∗ (arg7.view.loc (V d c j) ↦{fullShare} f7)
        ∗ (arg4.view.loc (V d c j) ↦[S4]{fullShare} fo)
        ∗ semVal (V d c j, SemLoc.dma r0.sem) 0 ∗ semVal (V d c j, SemLoc.dma r1.sem) 0 ∗ semVal (V d c j, SemLoc.dma r2.sem) 0 ∗ owes (V d c j) O W)
      ⊢ wpV d c j (task c j arg2 arg3 arg4 arg5 harg5 arg6 harg6 arg7 harg7 r0 r1 r2 fld o1 o2 h1 h2 o3 h3) fun _ =>
        iprop((arg2.view.loc (V d c j) ↦{q2} f2) ∗ (arg3.view.loc (V d c j) ↦{q3} f3)
          ∗ (∃ f5, arg5.view.loc (V d c j) ↦{fullShare} f5) ∗ (∃ f6, arg6.view.loc (V d c j) ↦{fullShare} f6) ∗ (∃ f7, arg7.view.loc (V d c j) ↦{fullShare} f7)
          ∗ (∃ fo, ⌜Filled (gath lo X A) p0 (p0 + 26) 0 (arg4.view.read (Elt F) fo)⌝ ∗ (arg4.view.loc (V d c j) ↦[S4]{fullShare} fo))
          ∗ semVal (V d c j, SemLoc.dma r0.sem) 0 ∗ semVal (V d c j, SemLoc.dma r1.sem) 0 ∗ semVal (V d c j, SemLoc.dma r2.sem) 0 ∗ owesX d c j O W) := by
  have h := loop_run d c j k0_t1_loop k0_t1_ok 4294967295#32
    (trip1 c j arg2 arg3 arg4 arg5 harg5 arg6 harg6 arg7 harg7 r0 r1 r2 fld o1 o2 h1 h2 o3 h3)
    (inv1 d c j arg2 arg3 arg4 arg5 arg6 arg7 r0 r1 r2 lo p0 X A q2 q3 f2 f3 S4 O W)
    (trip1_run d c j arg2 arg3 arg4 arg5 harg5 arg6 harg6 arg7 harg7 r0 r1 r2 hX h1 h2 h3 hoff q2 q3 f2 f3 hf2 hf3 S4 hS4 O W)
  unfold wpV task at *
  rw [wp_bind]
  refine BIBase.Entails.trans ?_ (h.trans (wp_mono frame _ _ fun _ => ?_))
  · unfold inv1 owesX
    iintro ⟨Hmw, H2, H3, H5, H6, H7, Ho, Hv0, Hv1, Hv2, HO⟩
    isplitl [Hmw]; · iexact Hmw
    isplitl [H2]; · iexact H2
    isplitl [H3]; · iexact H3
    isplitl [H5]; · iexists f5; iexact H5
    isplitl [H6]
    · iexists f6
      isplitr
      · ipureintro; intro hlt; exact absurd hlt (by decide)
      · iexact H6
    isplitl [H7]; · iexists f7; iexact H7
    isplitl [Ho]
    · iexists fo
      isplitr
      · ipureintro; intro y hy hp; omega
      · iexact Ho
    isplitl [Hv0]; · iexact Hv0
    isplitl [Hv1]; · iexact Hv1
    isplitl [Hv2]; · iexact Hv2
    iexists W
    isplitr
    · ipureintro; exact fun p hp => .inl hp
    · iexact HO
  · rw [trips1]
    unfold inv1
    iintro ⟨-, H2, H3, H5, ⟨%f6, -, H6⟩, H7, Ho, Hv0, Hv1, Hv2, HO⟩
    sl_step
    isplitl [H2]; · iexact H2
    isplitl [H3]; · iexact H3
    isplitl [H5]; · iexact H5
    isplitl [H6]; · iexists f6; iexact H6
    isplitl [H7]; · iexact H7
    isplitl [Ho]; · iexact Ho
    isplitl [Hv0]; · iexact Hv0
    isplitl [Hv1]; · iexact Hv1
    isplitl [Hv2]; · iexact Hv2
    iexact HO

end Run

/-! ## The offsets of the two calls -/

/-- The first row of the part of the tile at grid coordinates `i`. -/
def rowOf (i : grid0.Coords) : ℕ := 26 * (2 * (i 1).val + (i 0).val)

theorem coords_eta (i : grid0.Coords) : i = (fun | 0 => i 0 | 1 => i 1 : grid0.Coords) := by
  funext a
  match a with
  | ⟨0, _⟩ => rfl
  | ⟨1, _⟩ => rfl

/-- The first trips of the two outer loops. -/
abbrev t₀ : Fin k0_t1_loop.trips := ⟨0, by decide⟩
abbrev u₀' : Fin k0_t2_loop.trips := ⟨0, by decide⟩

theorem offsets_first (i : grid0.Coords) : Offsets 0 (rowOf i) (fieldOf 0#32 i) (k0_off1 i) (k0_off2 i) (k0_off19 i) := by
  have h : ∀ (a : Fin 2) (b : Fin 16) (t : Fin k0_t1_loop.trips) (u : Fin k0_t2_loop.trips),
      let i : grid0.Coords := fun | 0 => a | 1 => b
      (fieldOf 0#32 i t).toNat = (0 + rowOf i + t.val) / 64 ∧ k0_off1 i t 0 = (0 + rowOf i + t.val) / 64 ∧ k0_off1 i t 1 = 0
        ∧ k0_off2 i t 0 = 0 + rowOf i + t.val ∧ k0_off2 i t 1 = 0 ∧ k0_off19 i t u 0 = rowOf i + t.val ∧ k0_off19 i t u 1 = 8192 * u.val
        ∧ 0 + rowOf i + 26 ≤ 1664 := by decide +kernel
  have hi := h (i 0) (i 1)
  simp only [← coords_eta] at hi
  exact ⟨fun t => (hi t u₀').1, fun t => (hi t u₀').2.1, fun t => (hi t u₀').2.2.1, fun t => (hi t u₀').2.2.2.1, fun t => (hi t u₀').2.2.2.2.1,
    fun t u => (hi t u).2.2.2.2.2.1, fun t u => (hi t u).2.2.2.2.2.2.1, (hi t₀ u₀').2.2.2.2.2.2.2⟩

theorem offsets_second (i : grid0.Coords) : Offsets 832 (rowOf i) (fieldOf 832#32 i) (k1_off1 i) (k1_off2 i) (k1_off19 i) := by
  have h : ∀ (a : Fin 2) (b : Fin 16) (t : Fin k0_t1_loop.trips) (u : Fin k0_t2_loop.trips),
      let i : grid0.Coords := fun | 0 => a | 1 => b
      (fieldOf 832#32 i t).toNat = (832 + rowOf i + t.val) / 64 ∧ k1_off1 i t 0 = (832 + rowOf i + t.val) / 64 ∧ k1_off1 i t 1 = 0
        ∧ k1_off2 i t 0 = 832 + rowOf i + t.val ∧ k1_off2 i t 1 = 0 ∧ k1_off19 i t u 0 = rowOf i + t.val ∧ k1_off19 i t u 1 = 8192 * u.val
        ∧ 832 + rowOf i + 26 ≤ 1664 := by decide +kernel
  have hi := h (i 0) (i 1)
  simp only [← coords_eta] at hi
  exact ⟨fun t => (hi t u₀').1, fun t => (hi t u₀').2.1, fun t => (hi t u₀').2.2.1, fun t => (hi t u₀').2.2.2.1, fun t => (hi t u₀').2.2.2.2.1,
    fun t u => (hi t u).2.2.2.2.2.1, fun t u => (hi t u).2.2.2.2.2.2.1, (hi t₀ u₀').2.2.2.2.2.2.2⟩

end Cert.Proof
-- ==== Proof.TileOwn.lean ====
/-
  One tile's task from what its launch hands it: a share of the index array and of the table, its rows of the output, its
  scratch buffers and its three semaphores. It brings the rows back holding the gather.
-/
module

public import proofs.«01_k».proof.Proof.TileTask

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The rows of a tile -/

/-- The 26 rows of the output that tile number `w` writes. -/
def tileRows (w : ℕ) : Finset S832x16384.Idx := Finset.univ.filter fun y => (y 0).val / 26 = w

/-- The number of tile `i` of SparseCore `c`. -/
def tileNo (c : Fin 2) (i : Fin 16) : ℕ := 2 * i.val + c.val

theorem tileRows_disjoint : ∀ x ∈ (Finset.univ : Finset (Fin 2 × Fin 16)), ∀ y ∈ (Finset.univ : Finset (Fin 2 × Fin 16)), x ≠ y →
    Disjoint (tileRows (tileNo x.1 x.2)) (tileRows (tileNo y.1 y.2)) := by
  intro x _ y _ h
  refine Finset.disjoint_left.mpr fun z hx hy => h ?_
  have e1 := (Finset.mem_filter.mp hx).2
  have e2 := (Finset.mem_filter.mp hy).2
  unfold tileNo at e1 e2
  have b1 := x.1.isLt
  have b2 := y.1.isLt
  refine Prod.ext (Fin.ext ?_) (Fin.ext ?_) <;> omega

theorem tileRows_cover : (Finset.univ : Finset (Fin 2 × Fin 16)).biUnion (fun x => tileRows (tileNo x.1 x.2)) = Finset.univ := by
  refine Finset.eq_univ_iff_forall.mpr fun z => ?_
  have hz : (z 0).val < 832 := (z 0).isLt
  refine Finset.mem_biUnion.mpr ⟨(⟨(z 0).val / 26 % 2, by omega⟩, ⟨(z 0).val / 26 / 2, by omega⟩), Finset.mem_univ _, ?_⟩
  refine Finset.mem_filter.mpr ⟨Finset.mem_univ _, ?_⟩
  show (z 0).val / 26 = 2 * ((z 0).val / 26 / 2) + (z 0).val / 26 % 2
  omega

/-- The share of the two inputs that tile `i` of SparseCore `c` holds. -/
def tileShare (c : Fin 2) (i : Fin 16) : PosShare TreeShare :=
  Transfers.dealOf (Transfers.dealOf fullShare Finset.univ c) Finset.univ i

theorem pointsTo_tiles {ℓ : Loc nD τ sig} (f : Buf (Elt F) ℓ) :
    (ℓ ↦{fullShare} f : sProp 𝕄) = bigSep Finset.univ fun c : Fin 2 => bigSep Finset.univ fun i : Fin 16 => ℓ ↦{tileShare c i} f := by
  rw [Transfers.pointsTo_deal (Finset.univ : Finset (Fin 2)) Finset.univ_nonempty]
  exact bigSep_congr fun c _ => Transfers.pointsTo_deal (Finset.univ : Finset (Fin 16)) Finset.univ_nonempty _

theorem pointsTo_rows {ℓ : Loc nD τ sig} (R : Fin 2 × Fin 16 → Finset (Idx ℓ))
    (hd : ∀ x ∈ (Finset.univ : Finset (Fin 2 × Fin 16)), ∀ y ∈ (Finset.univ : Finset (Fin 2 × Fin 16)), x ≠ y → Disjoint (R x) (R y))
    (hc : (Finset.univ : Finset (Fin 2 × Fin 16)).biUnion R = Finset.univ) (f : Buf (Elt F) ℓ) :
    (ℓ ↦{fullShare} f : sProp 𝕄) = bigSep Finset.univ fun c : Fin 2 => bigSep Finset.univ fun i : Fin 16 => ℓ ↦[R (c, i)]{fullShare} f := by
  rw [← bigSep_univ_prod (fun x : Fin 2 × Fin 16 => (ℓ ↦[R x]{fullShare} f : sProp 𝕄)), ← pointsTo_biUnion Finset.univ R hd, hc]

/-! ## A tile's own resources -/

section Own

variable (d : Dev nD) (c : Fin τ.nSC) (j : Fin τ.nSub)

/-- Three of a tile's scoped semaphores, apart from the rest. -/
theorem ownSems_three (l0 l1 l2 : SemLoc sig) (h0 : l0.isScoped .scVector = true) (h1 : l1.isScoped .scVector = true) (h2 : l2.isScoped .scVector = true)
    (h01 : l1 ≠ l0) (h02 : l2 ≠ l0) (h12 : l2 ≠ l1) :
    (SparseCore.Cfg.ownSems0 (V d c j) : sProp 𝕄)
      = iprop(semVal (V d c j, l0) 0 ∗ semVal (V d c j, l1) 0 ∗ semVal (V d c j, l2) 0
          ∗ bigSep ((((SparseCore.Cfg.ownCells (V d c j)).erase (V d c j, l0)).erase (V d c j, l1)).erase (V d c j, l2)) fun g => semVal g 0) := by
  unfold SparseCore.Cfg.ownSems0
  have m0 := (SparseCore.Cfg.mem_ownCells (g := ((V d c j, l0) : GSem nD τ sig)) (thr := V d c j)).mpr ⟨rfl, h0⟩
  have m1 := (SparseCore.Cfg.mem_ownCells (g := ((V d c j, l1) : GSem nD τ sig)) (thr := V d c j)).mpr ⟨rfl, h1⟩
  have m2 := (SparseCore.Cfg.mem_ownCells (g := ((V d c j, l2) : GSem nD τ sig)) (thr := V d c j)).mpr ⟨rfl, h2⟩
  rw [SparseCore.bigSep_erase' m0,
    SparseCore.bigSep_erase' (Finset.mem_erase.mpr ⟨fun e => h01 (congrArg Prod.snd e), m1⟩),
    SparseCore.bigSep_erase' (Finset.mem_erase.mpr ⟨fun e => h12 (congrArg Prod.snd e), Finset.mem_erase.mpr ⟨fun e => h02 (congrArg Prod.snd e), m2⟩⟩)]

/-- Three of a tile's own buffers, at some contents, apart from the rest. -/
theorem ownBufs_three (s0 s1 s2 : Ref sig .scVector) (h0 : ((Proc.scVector c j).devRef s0).owner = .proc (.scVector c j))
    (h1 : ((Proc.scVector c j).devRef s1).owner = .proc (.scVector c j)) (h2 : ((Proc.scVector c j).devRef s2).owner = .proc (.scVector c j))
    (h01 : s1 ≠ s0) (h02 : s2 ≠ s0) (h12 : s2 ≠ s1) :
    (SparseCore.Cfg.ownBufs (V d c j) : sProp 𝕄)
      = iprop((∃ f, (V d c j).loc s0 ↦{fullShare} f) ∗ (∃ f, (V d c j).loc s1 ↦{fullShare} f) ∗ (∃ f, (V d c j).loc s2 ↦{fullShare} f)
          ∗ bigSep ((((SparseCore.Cfg.ownRefs (τ := τ) (.scVector c j)).erase ((Proc.scVector c j).devRef s0)).erase ((Proc.scVector c j).devRef s1)).erase
              ((Proc.scVector c j).devRef s2)) fun b => iprop(∃ f, ((d, b) : Loc nD τ sig) ↦{fullShare} f)) := by
  unfold SparseCore.Cfg.ownBufs
  have m0 := SparseCore.Cfg.mem_ownRefs_of_owner (p := Proc.scVector c j) h0
  have m1 := SparseCore.Cfg.mem_ownRefs_of_owner (p := Proc.scVector c j) h1
  have m2 := SparseCore.Cfg.mem_ownRefs_of_owner (p := Proc.scVector c j) h2
  refine (SparseCore.bigSep_erase' m0).trans ?_
  rw [SparseCore.bigSep_erase' (Finset.mem_erase.mpr ⟨fun e => h01 (Proc.devRef_injective _ e), m1⟩),
    SparseCore.bigSep_erase' (Finset.mem_erase.mpr ⟨fun e => h12 (Proc.devRef_injective _ e), Finset.mem_erase.mpr ⟨fun e => h02 (Proc.devRef_injective _ e), m2⟩⟩)]

end Own

end Cert.Proof
-- ==== Proof.Tiles.lean ====
/-
  What the two SparseCore calls' handshakes carry, and each tile's obligation: from its share of the index array and of
  the table and its rows of the output, the task runs and brings the rows back holding the gather.
-/
module

public import proofs.«01_k».proof.Proof.TileOwn

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The task among a tile's resources -/

section Generic

variable [FloatOps F] (d : Dev nD) (c : Fin τ.nSC) (j : Fin τ.nSub)
  (arg2 : Memref sig .scVector .hbm S26x16384 .i32) (arg3 : Memref sig .scVector .hbm S1664x100000 .f32)
  (arg4 : Memref sig .scVector .hbm S832x16384 .f32) (arg5 : Memref sig .scVector .vmem S100000 .f32) (harg5 : arg5.IsWhole)
  (arg6 : Memref sig .scVector .vmem S16384 .i32) (harg6 : arg6.IsWhole) (arg7 : Memref sig .scVector .vmem S8192 .f32) (harg7 : arg7.IsWhole)
  (r0 r1 r2 : DmaSems sig S_)

/-- A block the task writes lies in the tile's rows. -/
theorem outBlk_rows (w : ℕ) (o : Fin 2 → ℕ) (ho : ∀ a, o a + S1x8192.size a ≤ S832x16384.size a) (h : o 0 / 26 = w) :
    (outBlk arg4 o ho).view.set ⊆ (tileRows w).map arg4.view.emb := by
  show ((arg4.view.slice (Rect.unit (s := S832x16384) o S1x8192.size ho)).reshape S8192 squeezes_S1x8192_S8192.numel_eq).set ⊆ _
  rw [View.set_reshape, View.set_slice]
  refine Finset.map_subset_map.mpr fun y hy => Finset.mem_filter.mpr ⟨Finset.mem_univ _, ?_⟩
  rw [Rect.mem_set_unit] at hy
  have := hy 0
  change o 0 ≤ (y 0).val ∧ (y 0).val < o 0 + 1 at this
  rw [show (y 0).val = o 0 by omega, h]

variable {lo p0 : ℕ} {X : S26x16384.Idx → BitVec 32} {A : S1664x100000.Idx → Elt F .f32} (hX : ∀ z, (X z).toNat < 100000)
  {fld : Fin k0_t1_loop.trips → BitVec 32} {o1 o2 : Fin k0_t1_loop.trips → Fin 2 → ℕ}
  (h1 : ∀ t a, o1 t a + S1x16384.size a ≤ S26x16384.size a) (h2 : ∀ t a, o2 t a + S1x100000.size a ≤ S1664x100000.size a)
  {o3 : Fin k0_t1_loop.trips → Fin k0_t2_loop.trips → Fin 2 → ℕ} (h3 : ∀ t u a, o3 t u a + S1x8192.size a ≤ S832x16384.size a)
  (hoff : Offsets lo p0 fld o1 o2 o3) (q2 q3 : PosShare TreeShare)
  (f2 : Buf (Elt F) (arg2.view.loc (V d c j))) (f3 : Buf (Elt F) (arg3.view.loc (V d c j)))
  (hf2 : arg2.view.read (Elt F) f2 = X) (hf3 : arg3.view.read (Elt F) f3 = A)
  (fo : Buf (Elt F) (arg4.view.loc (V d c j)))
  (S4 : Finset (Idx (arg4.view.loc (V d c j)))) (hS4 : ∀ t u, (outBlk arg4 (o3 t u) (h3 t u)).view.set ⊆ S4)
  (b5 : ((Proc.scVector c j).devRef arg5.view.ref).owner = .proc (.scVector c j)) (b6 : ((Proc.scVector c j).devRef arg6.view.ref).owner = .proc (.scVector c j))
  (b7 : ((Proc.scVector c j).devRef arg7.view.ref).owner = .proc (.scVector c j))
  (b56 : arg6.view.ref ≠ arg5.view.ref) (b57 : arg7.view.ref ≠ arg5.view.ref) (b67 : arg7.view.ref ≠ arg6.view.ref)
  (s0 : (SemLoc.dma r0.sem : SemLoc sig).isScoped .scVector = true) (s1 : (SemLoc.dma r1.sem : SemLoc sig).isScoped .scVector = true)
  (s2 : (SemLoc.dma r2.sem : SemLoc sig).isScoped .scVector = true)
  (s01 : (SemLoc.dma r1.sem : SemLoc sig) ≠ SemLoc.dma r0.sem) (s02 : (SemLoc.dma r2.sem : SemLoc sig) ≠ SemLoc.dma r0.sem)
  (s12 : (SemLoc.dma r2.sem : SemLoc sig) ≠ SemLoc.dma r1.sem)

include hX hoff hf2 hf3 hS4 b5 b6 b7 b56 b57 b67 s0 s1 s2 s01 s02 s12 in
theorem tile_run (O : CellTallies nD τ sig (HIx 2)) (W : Waits sig (HIx 2)) (hO : ∀ g, O g none = 0) :
    iprop(levAts (K (F := F)).L (K (F := F)).lev ∗ emp
        ∗ ((arg2.view.loc (V d c j) ↦{q2} f2) ∗ (arg3.view.loc (V d c j) ↦{q3} f3) ∗ (arg4.view.loc (V d c j) ↦[S4]{fullShare} fo))
        ∗ scopedBufs (V d c j) ∗ scopedSems0 (V d c j) ∗ owes (V d c j) O W)
      ⊢ wpV d c j (task c j arg2 arg3 arg4 arg5 harg5 arg6 harg6 arg7 harg7 r0 r1 r2 fld o1 o2 h1 h2 o3 h3) fun _ =>
        iprop(((arg2.view.loc (V d c j) ↦{q2} f2) ∗ (arg3.view.loc (V d c j) ↦{q3} f3)
            ∗ (∃ fo, ⌜Filled (gath lo X A) p0 (p0 + 26) 0 (arg4.view.read (Elt F) fo)⌝ ∗ (arg4.view.loc (V d c j) ↦[S4]{fullShare} fo)))
          ∗ scopedBufs (V d c j) ∗ scopedSems0 (V d c j) ∗ owesX d c j O W) := by
  rw [(K (F := F)).scopedBufs_V facts d c j, SparseCore.Cfg.scopedSems0_V (Val := Elt F) d c j,
    ownSems_three d c j (SemLoc.dma r0.sem) (SemLoc.dma r1.sem) (SemLoc.dma r2.sem) s0 s1 s2 s01 s02 s12,
    ownBufs_three d c j arg5.view.ref arg6.view.ref arg7.view.ref b5 b6 b7 b56 b57 b67]
  unfold wpV
  iintro ⟨#Hlv, -, ⟨H2, H3, Ho⟩, ⟨⟨%f5, H5⟩, ⟨%f6, H6⟩, ⟨%f7, H7⟩, Hbufs⟩, ⟨Hv0, Hv1, Hv2, Hsems⟩, HO⟩
  ihave #Hmw := (show levAts (K (F := F)).L (K (F := F)).lev ⊢ Transfers.MayWaits (V d c j) (none : HIx 2) O from
    (K (F := F)).mayWaits_none (thr := V d c j) hO) $$ Hlv
  iapply (wp_wand_r frame (wpE (defs₀ (F := F)) 𝒱₀ (V d c j) none) Set.univ)
  isplitl [H2 H3 Ho H5 H6 H7 Hv0 Hv1 Hv2 HO]
  · have h := task_run d c j arg2 arg3 arg4 arg5 harg5 arg6 harg6 arg7 harg7 r0 r1 r2 hX h1 h2 h3 hoff q2 q3 f2 f3 hf2 hf3 S4 hS4 O W f5 f6 f7 fo
    unfold wpV at h
    iapply h
    isplitr; · iexact Hmw
    isplitl [H2]; · iexact H2
    isplitl [H3]; · iexact H3
    isplitl [H5]; · iexact H5
    isplitl [H6]; · iexact H6
    isplitl [H7]; · iexact H7
    isplitl [Ho]; · iexact Ho
    isplitl [Hv0]; · iexact Hv0
    isplitl [Hv1]; · iexact Hv1
    isplitl [Hv2]; · iexact Hv2
    iexact HO
  iintro %_ ⟨H2, H3, H5, H6, H7, Ho, Hv0, Hv1, Hv2, HO⟩
  isplitl [H2 H3 Ho]
  · isplitl [H2]; · iexact H2
    isplitl [H3]; · iexact H3
    iexact Ho
  isplitl [H5 H6 H7 Hbufs]
  · isplitl [H5]; · iexact H5
    isplitl [H6]; · iexact H6
    isplitl [H7]; · iexact H7
    iexact Hbufs
  isplitl [Hv0 Hv1 Hv2 Hsems]
  · isplitl [Hv0]; · iexact Hv0
    isplitl [Hv1]; · iexact Hv1
    isplitl [Hv2]; · iexact Hv2
    iexact Hsems
  iexact HO

end Generic

/-! ## What the handshakes carry -/

/-- The contents of the TensorCore's buffers when the first call starts. -/
abbrev Vals (F : FTy → Type) := (d : Dev nD) → (b : Ref sig .tc) → Buf (Elt F) ((SparseCore.T d : Thread nD τ).loc b)

variable (U : Vals F)

abbrev xLoc (d : Dev nD) : Loc nD τ sig := (SparseCore.T d : Thread nD τ).loc main_v2
abbrev aLoc (d : Dev nD) : Loc nD τ sig := (SparseCore.T d : Thread nD τ).loc main_v1
abbrev oLoc₀ (d : Dev nD) : Loc nD τ sig := (SparseCore.T d : Thread nD τ).loc main_v3
abbrev oLoc₁ (d : Dev nD) : Loc nD τ sig := (SparseCore.T d : Thread nD τ).loc main_v4

/-- The gather of the indices and the table there, from row `lo` on. -/
def gat (lo : ℕ) (d : Dev nD) : S832x16384.Idx → Elt F .f32 := gath lo (U d main_v2) (U d main_v1)

/-- What a tile of the first call takes, its output rows at `f`, -/
def hand₀ (d : Dev nD) (f : Buf (Elt F) (oLoc₀ d)) (c : Fin 2) (i : Fin 16) : sProp 𝕄 :=
  iprop((xLoc d ↦{tileShare c i} U d main_v2) ∗ (aLoc d ↦{tileShare c i} U d main_v1) ∗ (oLoc₀ d ↦[tileRows (tileNo c i)]{fullShare} f))
/-- and a tile of the second. -/
def hand₁ (d : Dev nD) (f : Buf (Elt F) (oLoc₁ d)) (c : Fin 2) (i : Fin 16) : sProp 𝕄 :=
  iprop((xLoc d ↦{tileShare c i} U d main_v2) ∗ (aLoc d ↦{tileShare c i} U d main_v1) ∗ (oLoc₁ d ↦[tileRows (tileNo c i)]{fullShare} f))

instance hand₀_storable (d : Dev nD) (f : Buf (Elt F) (oLoc₀ d)) (c : Fin 2) (i : Fin 16) :
    BI.Storable (upEmb : UEmb _ 𝕄) (hand₀ U d f c i) := by unfold hand₀; infer_instance
instance hand₁_storable (d : Dev nD) (f : Buf (Elt F) (oLoc₁ d)) (c : Fin 2) (i : Fin 16) :
    BI.Storable (upEmb : UEmb _ 𝕄) (hand₁ U d f c i) := by unfold hand₁; infer_instance

/-- Each core of a call takes its sixteen tiles' hands and brings them back, the output rows at the gather. -/
def P : (K (F := F)).Pay (nD := nD) (Val := Elt F) (Name := ℕ) (U := UU) where
  st := fun q d c => match q with
    | 0 => bigSep Finset.univ fun i : Fin ((K (F := F)).nSub 0) => hand₀ U d (U d main_v3) (Fin.cast (nCore_eq 0) c) (Fin.cast (nSub_eq 0) i)
    | 1 => bigSep Finset.univ fun i : Fin ((K (F := F)).nSub 1) => hand₁ U d (U d main_v4) (Fin.cast (nCore_eq 1) c) (Fin.cast (nSub_eq 1) i)
  dn := fun q d c => match q with
    | 0 => bigSep Finset.univ fun i : Fin ((K (F := F)).nSub 0) => hand₀ U d (gat U 0 d) (Fin.cast (nCore_eq 0) c) (Fin.cast (nSub_eq 0) i)
    | 1 => bigSep Finset.univ fun i : Fin ((K (F := F)).nSub 1) => hand₁ U d (gat U 832 d) (Fin.cast (nCore_eq 1) c) (Fin.cast (nSub_eq 1) i)
  go := fun q d c i => match q with
    | 0 => hand₀ U d (U d main_v3) (Fin.cast (nCore_eq 0) c) (Fin.cast (nSub_eq 0) i)
    | 1 => hand₁ U d (U d main_v4) (Fin.cast (nCore_eq 1) c) (Fin.cast (nSub_eq 1) i)
  td := fun q d c i => match q with
    | 0 => hand₀ U d (gat U 0 d) (Fin.cast (nCore_eq 0) c) (Fin.cast (nSub_eq 0) i)
    | 1 => hand₁ U d (gat U 832 d) (Fin.cast (nCore_eq 1) c) (Fin.cast (nSub_eq 1) i)
  x := fun _ _ => iprop(emp)

instance P_storable : (P U).IsStorable where
  st q d c := match q with
    | 0 => (inferInstance : BI.Storable (upEmb : UEmb _ 𝕄)
        (bigSep Finset.univ fun i : Fin ((K (F := F)).nSub 0) => hand₀ U d (U d main_v3) (Fin.cast (nCore_eq 0) c) (Fin.cast (nSub_eq 0) i)))
    | 1 => (inferInstance : BI.Storable (upEmb : UEmb _ 𝕄)
        (bigSep Finset.univ fun i : Fin ((K (F := F)).nSub 1) => hand₁ U d (U d main_v4) (Fin.cast (nCore_eq 1) c) (Fin.cast (nSub_eq 1) i)))
  dn q d c := match q with
    | 0 => (inferInstance : BI.Storable (upEmb : UEmb _ 𝕄)
        (bigSep Finset.univ fun i : Fin ((K (F := F)).nSub 0) => hand₀ U d (gat U 0 d) (Fin.cast (nCore_eq 0) c) (Fin.cast (nSub_eq 0) i)))
    | 1 => (inferInstance : BI.Storable (upEmb : UEmb _ 𝕄)
        (bigSep Finset.univ fun i : Fin ((K (F := F)).nSub 1) => hand₁ U d (gat U 832 d) (Fin.cast (nCore_eq 1) c) (Fin.cast (nSub_eq 1) i)))
  go q d c i := match q with
    | 0 => hand₀_storable U d _ _ _
    | 1 => hand₁_storable U d _ _ _
  td q d c i := match q with
    | 0 => hand₀_storable U d _ _ _
    | 1 => hand₁_storable U d _ _ _

theorem keep (A B : sProp 𝕄) : A ⊢ |={Set.univ}=> iprop(A ∗ (B -∗ B)) := by
  iintro H; imodintro
  isplitl [H]; · iexact H
  iintro H; iexact H

theorem vecSplit (q : Fin 2) : (K (F := F)).VecSplit' (P U) q := by
  intro d c
  match q with
  | 0 => exact keep _ _
  | 1 => exact keep _ _

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

variable [FloatOps F]

/-- What every index names: a row of its table. -/
def InRange : Prop := ∀ (d : Dev nD) (z : S26x16384.Idx), BitVec.toNat (U d main_v2 z : BitVec 32) < 100000

theorem defs₀_first (c : Fin τ.nSC) (s : Fin τ.nSub) :
    defs₀ (F := F) (.scVector c s) 0 ()
      = SparseCore.onTile hcore0 hsub0 (fun c s => cc0__sc_gather (coordsV c s)
          (Memref.whole main_v2_scv) (Memref.isWhole_whole _) (Memref.whole main_v1_scv) (Memref.isWhole_whole _)
          (Memref.whole main_v3_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2) ⟨⟩ c s := rfl

theorem defs₀_second (c : Fin τ.nSC) (s : Fin τ.nSub) :
    defs₀ (F := F) (.scVector c s) 1 ()
      = SparseCore.onTile hcore1 hsub1 (fun c s => cc1__sc_gather (coordsV c s)
          (Memref.whole main_v2_scv) (Memref.isWhole_whole _) (Memref.whole main_v1_scv) (Memref.isWhole_whole _)
          (Memref.whole main_v4_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

/-- Filled rows are the gather's. -/
theorem filled_rows {G : S832x16384.Idx → Elt F .f32} {w : ℕ} {x : S832x16384.Idx → Elt F .f32} (h : Filled G (26 * w) (26 * w + 26) 0 x)
    (y : S832x16384.Idx) (hy : y ∈ tileRows w) : x y = G y := by
  have e := (Finset.mem_filter.mp hy).2
  exact h y (by omega) (.inl (by omega))

theorem obl_post (d : Dev nD) (c : Fin τ.nSC) (j : Fin τ.nSub) {A B C : sProp 𝕄} {O : CellTallies nD τ sig (HIx 2)} {W : Waits sig (HIx 2)} {Q : HIx 2 → Prop} :
    iprop(A ∗ B ∗ C ∗ owesX d c j O W)
      ⊢ iprop(A ∗ B ∗ C ∗ ∃ W', ⌜∀ p ∈ W', p ∈ W ∨ p.2 = none ∨ Q p.2⌝ ∗ owes (V d c j) O W') := by
  unfold owesX
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The first call's task on tile `i`, -/
theorem body_first (hU : InRange U) (d : Dev nD) (i : grid0.Coords) (O : CellTallies nD τ sig (HIx 2)) (W : Waits sig (HIx 2)) (hO : ∀ g, O g none = 0) :
    iprop(levAts (K (F := F)).L (K (F := F)).lev ∗ emp ∗ hand₀ U d (U d main_v3) (i 0) (i 1)
        ∗ scopedBufs (V d ((i 0).castLE hcore0) ((i 1).castLE hsub0)) ∗ scopedSems0 (V d ((i 0).castLE hcore0) ((i 1).castLE hsub0))
        ∗ owes (V d ((i 0).castLE hcore0) ((i 1).castLE hsub0)) O W)
      ⊢ wpV d ((i 0).castLE hcore0) ((i 1).castLE hsub0) (cc0__sc_gather i
          (Memref.whole main_v2_scv) (Memref.isWhole_whole _) (Memref.whole main_v1_scv) (Memref.isWhole_whole _)
          (Memref.whole main_v3_scv) (Memref.isWhole_whole _) (Memref.whole cc0_scratch0) (Memref.isWhole_whole _)
          (Memref.whole cc0_scratch1) (Memref.isWhole_whole _) (Memref.whole cc0_scratch2) (Memref.isWhole_whole _)
          cc0_scoped0 cc0_scoped1 cc0_scoped2) fun _ =>
        iprop(hand₀ U d (gat U 0 d) (i 0) (i 1)
          ∗ scopedBufs (V d ((i 0).castLE hcore0) ((i 1).castLE hsub0)) ∗ scopedSems0 (V d ((i 0).castLE hcore0) ((i 1).castLE hsub0))
          ∗ owesX d ((i 0).castLE hcore0) ((i 1).castLE hsub0) O W) := by
  rw [cc0__sc_gather_eq_skeleton, task_first]
  have h := tile_run d ((i 0).castLE hcore0) ((i 1).castLE hsub0) (Memref.whole main_v2_scv) (Memref.whole main_v1_scv) (Memref.whole main_v3_scv)
    (Memref.whole cc0_scratch0) (Memref.isWhole_whole _) (Memref.whole cc0_scratch1) (Memref.isWhole_whole _) (Memref.whole cc0_scratch2) (Memref.isWhole_whole _)
    cc0_scoped0 cc0_scoped1 cc0_scoped2 (X := U d main_v2) (A := U d main_v1) (hU d) (k0_off1_inb i) (k0_off2_inb i) (k0_off19_inb i) (offsets_first i)
    (tileShare (i 0) (i 1)) (tileShare (i 0) (i 1)) (U d main_v2) (U d main_v1) rfl rfl (U d main_v3) (tileRows (tileNo (i 0) (i 1)))
    (fun t u => by
      have := outBlk_rows (Memref.whole main_v3_scv) (tileNo (i 0) (i 1)) (k0_off19 i t u) (k0_off19_inb i t u) (by
        rw [(offsets_first i).o3_row]
        have := t.isLt
        have := trips1
        unfold rowOf tileNo
        omega)
      exact this.trans_eq Finset.map_refl)
    rfl rfl rfl (by decide) (by decide) (by decide) (by decide) (by decide) (by decide) (by decide) (by decide) (by decide) O W hO
  unfold wpV at *
  refine BIBase.Entails.trans ?_ (h.trans (wp_mono frame _ _ fun _ => ?_))
  · unfold hand₀; exact BIBase.Entails.rfl
  · iintro ⟨⟨H2, H3, %fo, %hfo, Ho⟩, H⟩
    isplitr [H]
    · unfold hand₀
      isplitl [H2]; · iexact H2
      isplitl [H3]; · iexact H3
      rw [show (oLoc₀ d ↦[tileRows (tileNo (i 0) (i 1))]{fullShare} gat U 0 d : sProp 𝕄) = (oLoc₀ d ↦[tileRows (tileNo (i 0) (i 1))]{fullShare} fo) from
        pointsTo_congr fun y hy => (filled_rows hfo y hy).symm]
      iexact Ho
    · iexact H

theorem tileObl_first (hU : InRange U) : (K (F := F)).TileObl (D (F := F)) 𝒱 (P U) v₀ 0 := by
  intro d c i O W hO _ _
  simp only [show (P U).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_first]; simp only [SparseCore.onTile, hci, and_self, ↓reduceDIte]
  exact (body_first U hU d (coordsV ⟨_, hci.1⟩ ⟨_, hci.2⟩) O W hO).trans (wp_mono frame _ _ fun _ => obl_post d _ _)

/-- and the second's. -/
theorem body_second (hU : InRange U) (d : Dev nD) (i : grid0.Coords) (O : CellTallies nD τ sig (HIx 2)) (W : Waits sig (HIx 2)) (hO : ∀ g, O g none = 0) :
    iprop(levAts (K (F := F)).L (K (F := F)).lev ∗ emp ∗ hand₁ U d (U d main_v4) (i 0) (i 1)
        ∗ scopedBufs (V d ((i 0).castLE hcore1) ((i 1).castLE hsub1)) ∗ scopedSems0 (V d ((i 0).castLE hcore1) ((i 1).castLE hsub1))
        ∗ owes (V d ((i 0).castLE hcore1) ((i 1).castLE hsub1)) O W)
      ⊢ wpV d ((i 0).castLE hcore1) ((i 1).castLE hsub1) (cc1__sc_gather i
          (Memref.whole main_v2_scv) (Memref.isWhole_whole _) (Memref.whole main_v1_scv) (Memref.isWhole_whole _)
          (Memref.whole main_v4_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) fun _ =>
        iprop(hand₁ U d (gat U 832 d) (i 0) (i 1)
          ∗ scopedBufs (V d ((i 0).castLE hcore1) ((i 1).castLE hsub1)) ∗ scopedSems0 (V d ((i 0).castLE hcore1) ((i 1).castLE hsub1))
          ∗ owesX d ((i 0).castLE hcore1) ((i 1).castLE hsub1) O W) := by
  rw [cc1__sc_gather_eq_skeleton, task_second]
  have h := tile_run d ((i 0).castLE hcore1) ((i 1).castLE hsub1) (Memref.whole main_v2_scv) (Memref.whole main_v1_scv) (Memref.whole main_v4_scv)
    (Memref.whole cc1_scratch0) (Memref.isWhole_whole _) (Memref.whole cc1_scratch1) (Memref.isWhole_whole _) (Memref.whole cc1_scratch2) (Memref.isWhole_whole _)
    cc1_scoped0 cc1_scoped1 cc1_scoped2 (X := U d main_v2) (A := U d main_v1) (hU d) (k1_off1_inb i) (k1_off2_inb i) (k1_off19_inb i) (offsets_second i)
    (tileShare (i 0) (i 1)) (tileShare (i 0) (i 1)) (U d main_v2) (U d main_v1) rfl rfl (U d main_v4) (tileRows (tileNo (i 0) (i 1)))
    (fun t u => by
      have := outBlk_rows (Memref.whole main_v4_scv) (tileNo (i 0) (i 1)) (k1_off19 i t u) (k1_off19_inb i t u) (by
        rw [(offsets_second i).o3_row]
        have := t.isLt
        have := trips1
        unfold rowOf tileNo
        omega)
      exact this.trans_eq Finset.map_refl)
    rfl rfl rfl (by decide) (by decide) (by decide) (by decide) (by decide) (by decide) (by decide) (by decide) (by decide) O W hO
  unfold wpV at *
  refine BIBase.Entails.trans ?_ (h.trans (wp_mono frame _ _ fun _ => ?_))
  · unfold hand₁; exact BIBase.Entails.rfl
  · iintro ⟨⟨H2, H3, %fo, %hfo, Ho⟩, H⟩
    isplitr [H]
    · unfold hand₁
      isplitl [H2]; · iexact H2
      isplitl [H3]; · iexact H3
      rw [show (oLoc₁ d ↦[tileRows (tileNo (i 0) (i 1))]{fullShare} gat U 832 d : sProp 𝕄) = (oLoc₁ d ↦[tileRows (tileNo (i 0) (i 1))]{fullShare} fo) from
        pointsTo_congr fun y hy => (filled_rows hfo y hy).symm]
      iexact Ho
    · iexact H

theorem tileObl_second (hU : InRange U) : (K (F := F)).TileObl (D (F := F)) 𝒱 (P U) v₀ 1 := by
  intro d c i O W hO _ _
  simp only [show (P U).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_second]; simp only [SparseCore.onTile, hci, and_self, ↓reduceDIte]
  exact (body_second U hU d (coordsV ⟨_, hci.1⟩ ⟨_, hci.2⟩) O W hO).trans (wp_mono frame _ _ fun _ => obl_post d _ _)

end Cert.Proof
-- ==== Proof.Calls.lean ====
/-
  The two SparseCore calls from the TensorCore: each is entered from all the program's arrays and comes back with its
  output array holding the gather and every other array as it was.
-/
module

public import proofs.«01_k».proof.Proof.Tiles

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The arrays with one of them replaced. -/
def filled (V : Valuation τ sig (Elt F)) (r : Ref sig .tc) (f : r.ty.Contents (Elt F)) : Valuation τ sig (Elt F) :=
  Function.update V (Proc.devRef .tc r) f

theorem filled_self (V : Valuation τ sig (Elt F)) (r : Ref sig .tc) (f : r.ty.Contents (Elt F)) : filled V r f (Proc.devRef .tc r) = f :=
  Function.update_self _ _ _

theorem filled_ne (V : Valuation τ sig (Elt F)) (r : Ref sig .tc) (f : r.ty.Contents (Elt F)) {b : Ref sig .tc} (h : b ≠ r) :
    filled V r f (Proc.devRef .tc b) = V (Proc.devRef .tc b) :=
  Function.update_of_ne (fun e => h (Proc.devRef_injective _ e)) _ _

/-- The arrays besides three of them. -/
abbrev besides (r₁ r₂ r₃ : Ref sig .tc) : Finset (DevRef τ sig) :=
  Pipeline.ucRefs τ sig \ {Proc.devRef .tc r₁, Proc.devRef .tc r₂, Proc.devRef .tc r₃}

theorem held_three (d : Dev nD) (r₁ r₂ r₃ : Ref sig .tc) (h₁ : ¬ r₁.isScoped) (h₂ : ¬ r₂.isScoped) (h₃ : ¬ r₃.isScoped) (n₁₂ : r₁ ≠ r₂) (n₁₃ : r₁ ≠ r₃)
    (n₂₃ : r₂ ≠ r₃) (V : Valuation τ sig (Elt F)) :
    (StableHlo.held (SparseCore.T d : Thread nD τ) (Pipeline.ucRefs τ sig) V : sProp 𝕄)
      = iprop((((SparseCore.T d : Thread nD τ).loc r₁ ↦{fullShare} V (Proc.devRef .tc r₁)) ∗ ((SparseCore.T d : Thread nD τ).loc r₂ ↦{fullShare} V (Proc.devRef .tc r₂))
          ∗ ((SparseCore.T d : Thread nD τ).loc r₃ ↦{fullShare} V (Proc.devRef .tc r₃)))
        ∗ StableHlo.held (SparseCore.T d : Thread nD τ) (besides r₁ r₂ r₃) V) := by
  have inj : ∀ {a b : Ref sig .tc}, a ≠ b → (Proc.devRef .tc a : DevRef τ sig) ≠ Proc.devRef .tc b := fun h e => h (Proc.devRef_injective _ e)
  rw [StableHlo.held_sub_split (SparseCore.T d : Thread nD τ) (T := {Proc.devRef .tc r₁, Proc.devRef .tc r₂, Proc.devRef .tc r₃}) (fun b hb => ?_) V]
  · congr 1
    unfold StableHlo.held
    rw [SparseCore.bigSep_insert' (by simp [inj n₁₂, inj n₁₃]), SparseCore.bigSep_insert' (by simp [inj n₂₃]), bigSep_singleton]
    try rfl
  · simp only [Finset.mem_insert, Finset.mem_singleton] at hb
    rcases hb with rfl | rfl | rfl
    · exact Finset.mem_filter.mpr ⟨StableHlo.devRef_mem_tcRefs _, h₁⟩
    · exact Finset.mem_filter.mpr ⟨StableHlo.devRef_mem_tcRefs _, h₂⟩
    · exact Finset.mem_filter.mpr ⟨StableHlo.devRef_mem_tcRefs _, h₃⟩

theorem held_filled (d : Dev nD) (V : Valuation τ sig (Elt F)) (r : Ref sig .tc) (f : r.ty.Contents (Elt F)) {S : Finset (DevRef τ sig)}
    (h : (Proc.devRef .tc r : DevRef τ sig) ∉ S) :
    (StableHlo.held (SparseCore.T d : Thread nD τ) S (filled V r f) : sProp 𝕄) = StableHlo.held (SparseCore.T d : Thread nD τ) S V :=
  StableHlo.held_congr _ fun b hb => Function.update_of_ne (show b ≠ Proc.devRef .tc r from fun e => h (e ▸ hb)) _ _

variable (U : Vals F)

theorem hands₀ (d : Dev nD) (f : Buf (Elt F) (oLoc₀ d)) :
    (iprop((xLoc d ↦{fullShare} U d main_v2) ∗ (aLoc d ↦{fullShare} U d main_v1) ∗ (oLoc₀ d ↦{fullShare} f)) : sProp 𝕄)
      = bigSep Finset.univ fun c : Fin 2 => bigSep Finset.univ fun i : Fin 16 => hand₀ U d f c i := by
  unfold hand₀
  rw [pointsTo_tiles (U d main_v2), pointsTo_tiles (U d main_v1),
    pointsTo_rows (ℓ := oLoc₀ d) (fun x => tileRows (tileNo x.1 x.2)) tileRows_disjoint tileRows_cover f, ← bigSep_sep', ← bigSep_sep']
  refine bigSep_congr fun c _ => ?_
  rw [← bigSep_sep', ← bigSep_sep']

/-- Call 0: from all the arrays, with the calls before it done, to all the arrays with its output the gather. -/
theorem call₀ (κ : GSem nD τ sig → ℕ) (d : Dev nD) (V : Valuation τ sig (Elt F)) (h2 : V main_v2 = U d main_v2) (h1 : V main_v1 = U d main_v1)
    (ho : V main_v3 = U d main_v3) :
    iprop((K (F := F)).ctx EH (P U) κ ∗ (K (F := F)).tcSt EH d 0 ∗ StableHlo.held (SparseCore.T d : Thread nD τ) (Pipeline.ucRefs τ sig) V)
      ⊢ wp frame (wpE ((K (F := F)).defs (D (F := F))) 𝒱 (SparseCore.T d : Thread nD τ) none) Set.univ ((K (F := F)).run d 0)
          fun _ => iprop((K (F := F)).tcSt EH d 1
            ∗ StableHlo.held (SparseCore.T d : Thread nD τ) (Pipeline.ucRefs τ sig) (filled V main_v3 (gat U 0 d))) := by
  rw [held_three d main_v2 main_v1 main_v3 (by decide) (by decide) (by decide) (by decide) (by decide) (by decide) V,
    held_three d main_v2 main_v1 main_v3 (by decide) (by decide) (by decide) (by decide) (by decide) (by decide) (filled V main_v3 (gat U 0 d)),
    filled_self, filled_ne V main_v3 _ (by decide), filled_ne V main_v3 _ (by decide), h2, h1, ho, held_filled d V main_v3 _ (by simp)]
  iintro ⟨#Hctx, Hst, Hx, Hr⟩
  iapply ((K (F := F)).wp_run (D (F := F)) 𝒱 (EH := EH) (P := P U) κ d 0) $$ [Hst Hx Hr]
  isplitr; · iexact Hctx
  isplitl [Hst]; · iexact Hst
  isplitl [Hx]
  · iapply (Entails.of_eq (hands₀ U d (U d main_v3))) $$ Hx
  iintro ⟨Hst, Hdn⟩
  isplitl [Hst]; · iexact Hst
  isplitl [Hdn]
  · iapply (show (bigSep Finset.univ fun c : Fin ((K (F := F)).nCore 0) => (P U).dn 0 d c) ⊢ (iprop((xLoc d ↦{fullShare} U d main_v2)
        ∗ (aLoc d ↦{fullShare} U d main_v1) ∗ (oLoc₀ d ↦{fullShare} gat U 0 d)) : sProp 𝕄) from
      Entails.of_eq (hands₀ U d (gat U 0 d)).symm) $$ Hdn
  iexact Hr

theorem hands₁ (d : Dev nD) (f : Buf (Elt F) (oLoc₁ d)) :
    (iprop((xLoc d ↦{fullShare} U d main_v2) ∗ (aLoc d ↦{fullShare} U d main_v1) ∗ (oLoc₁ d ↦{fullShare} f)) : sProp 𝕄)
      = bigSep Finset.univ fun c : Fin 2 => bigSep Finset.univ fun i : Fin 16 => hand₁ U d f c i := by
  unfold hand₁
  rw [pointsTo_tiles (U d main_v2), pointsTo_tiles (U d main_v1),
    pointsTo_rows (ℓ := oLoc₁ d) (fun x => tileRows (tileNo x.1 x.2)) tileRows_disjoint tileRows_cover f, ← bigSep_sep', ← bigSep_sep']
  refine bigSep_congr fun c _ => ?_
  rw [← bigSep_sep', ← bigSep_sep']

/-- Call 1: from all the arrays, with the calls before it done, to all the arrays with its output the gather. -/
theorem call₁ (κ : GSem nD τ sig → ℕ) (d : Dev nD) (V : Valuation τ sig (Elt F)) (h2 : V main_v2 = U d main_v2) (h1 : V main_v1 = U d main_v1)
    (ho : V main_v4 = U d main_v4) :
    iprop((K (F := F)).ctx EH (P U) κ ∗ (K (F := F)).tcSt EH d 1 ∗ StableHlo.held (SparseCore.T d : Thread nD τ) (Pipeline.ucRefs τ sig) V)
      ⊢ wp frame (wpE ((K (F := F)).defs (D (F := F))) 𝒱 (SparseCore.T d : Thread nD τ) none) Set.univ ((K (F := F)).run d 1)
          fun _ => iprop((K (F := F)).tcSt EH d 2
            ∗ StableHlo.held (SparseCore.T d : Thread nD τ) (Pipeline.ucRefs τ sig) (filled V main_v4 (gat U 832 d))) := by
  rw [held_three d main_v2 main_v1 main_v4 (by decide) (by decide) (by decide) (by decide) (by decide) (by decide) V,
    held_three d main_v2 main_v1 main_v4 (by decide) (by decide) (by decide) (by decide) (by decide) (by decide) (filled V main_v4 (gat U 832 d)),
    filled_self, filled_ne V main_v4 _ (by decide), filled_ne V main_v4 _ (by decide), h2, h1, ho, held_filled d V main_v4 _ (by simp)]
  iintro ⟨#Hctx, Hst, Hx, Hr⟩
  iapply ((K (F := F)).wp_run (D (F := F)) 𝒱 (EH := EH) (P := P U) κ d 1) $$ [Hst Hx Hr]
  isplitr; · iexact Hctx
  isplitl [Hst]; · iexact Hst
  isplitl [Hx]
  · iapply (Entails.of_eq (hands₁ U d (U d main_v4))) $$ Hx
  iintro ⟨Hst, Hdn⟩
  isplitl [Hst]; · iexact Hst
  isplitl [Hdn]
  · iapply (show (bigSep Finset.univ fun c : Fin ((K (F := F)).nCore 1) => (P U).dn 1 d c) ⊢ (iprop((xLoc d ↦{fullShare} U d main_v2)
        ∗ (aLoc d ↦{fullShare} U d main_v1) ∗ (oLoc₁ d ↦{fullShare} gat U 832 d)) : sProp 𝕄) from
      Entails.of_eq (hands₁ U d (gat U 832 d)).symm) $$ Hdn
  iexact Hr

end Cert.Proof
-- ==== Proof.RegionBase.lean ====
/-
  What the two TensorCore regions of the program share: the pairs a region's loop may record, the invariant its body
  keeps (the buffers it does not stage, and the generator register), and the owned view of a staging buffer.
-/
module

public import proofs.«01_k».proof.Proof.Common
public import Idealize.ShloMosaic.Lib.Pipeline.FrameBody
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The waits a TensorCore may have recorded while it still could serve call `n`: those at or below that call's level. -/
def lowPairs (d : Dev nD) (n : ℕ) : Set (SemLoc sig × HIx 2) :=
  {p | (K (F := F)).lev ((SparseCore.T d : Thread nD τ), p.1) p.2 ≤ 8 * (inferInstance : SparseCore.Cfg.Blocks 2 2).fst n}

/-- What a region's body leaves alone: the scoped buffers no window stages, and the generator register. -/
def Untouched {gr W : ℕ} (win : Fin W → Pipeline.WinSpec sig gr) (c : Dev nD) : sProp 𝕄 :=
  iprop(Pipeline.scopedRest (Ix := HIx 2) (Name := ℕ) (U := UU) (Lvl := ℕ) (Val := Elt F) win c ∗ ∃ r, prngReg c r)

/-- A buffer held at contents `f` is owned through a view of it at what the view reads of `f`. -/
theorem owns_back (t : Thread nD τ) {sp : Space} {sh : Shape} {e : EltTy} (a : Memref sig t.2.kind sp sh e) (q : PosShare TreeShare)
    (f : Buf (Elt F) (a.view.loc t)) : (a.view.loc t ↦[a.view.set]{q} f : sProp 𝕄) ⊢
      iprop(∃ g, ⌜a.view.read (Elt F) g = a.view.read (Elt F) f⌝ ∗ (a.view.loc t ↦[a.view.set]{q} g)) := by
  iintro H
  iexists f
  isplitr
  · ipureintro; rfl
  iexact H

end Cert.Proof
-- ==== Proof.RegionSeg.lean ====
/-
  A TensorCore region of the program, entered on the TensorCore from all its arrays and left with the arrays its
  windows write at what the write-backs leave: once for both regions, from the proof data of the region entered.
-/
module

public import proofs.«01_k».proof.Proof.RegionBase

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev adm (p : Fin 2) : (pcfgs (F := F) p).Adm := (cfgs p).toPCfg_adm

/-- The proof data of the two regions. -/
abbrev Dats (F : FTy → Type) : Type :=
  (p : Fin 2) → (c : Dev nD) → Dat τ (Elt F) (HIx 2) ℕ UU ℕ (Pipeline.pin (pcfgs (F := F)) adm p) c

/-- Nothing owed any more, with only waits recorded that call 2 would still allow. -/
def debtFree (c : Dev nD) : sProp 𝕄 :=
  iprop(∃ W, ⌜(K (F := F)).WBelow (SparseCore.T c : Thread nD τ) W (8 * (inferInstance : SparseCore.Cfg.Blocks 2 2).fst 2)⌝
    ∗ owes (SparseCore.T c : Thread nD τ) (0 : CellTallies nD τ sig (HIx 2)) W)

/-- The arrays at a valuation, the generator register at some state, and nothing owed. -/
def arraysAt (W : Dev nD → Valuation τ sig (Elt F)) (c : Dev nD) : sProp 𝕄 :=
  iprop(StableHlo.held (c : Thread nD τ) (Pipeline.ucRefs τ sig) (W c) ∗ (∃ r, prngReg c r) ∗ debtFree (F := F) c)

/-- The arrays a region leaves: its windows' arrays at what the write-backs leave, every other array as it was. -/
abbrev leaves (pd : Dats F) (p : Fin 2) (W : Dev nD → Valuation τ sig (Elt F)) (c : Dev nD) : Valuation τ sig (Elt F) :=
  Pipeline.withArrays (cfgs p).spec c (W c) fun w => (pd p c).arrAt w (cfgs p).N

/-- What a region's proof data must be for the region to run from all the arrays. -/
structure Plain (pd : Dats F) (p : Fin 2) (W : Dev nD → Valuation τ sig (Elt F)) : Prop where
  arr : ∀ c w, (pd p c).A w = W c (Proc.devRef .tc (Pipeline.arrRef (cfgs p).spec w))
  obl : ∀ c, BodyObligation (pd p c) (defs₀ (F := F)) Variants.none none Set.univ
  inv : ∀ c t, (pd p c).Φ t = Untouched (cfgs p).spec c
  share : ∀ c w, (pd p c).q w = fullShare
  owed : ∀ c t, (pd p c).owed t = 0
  recorded : ∀ c t, (pd p c).recorded t = lowPairs (F := F) c 2

set_option backward.isDefEq.respectTransparency.types false in
/-- A region over the arrays. -/
def regionSeg (pd : Dats F) (p : Fin 2) (W : Dev nD → Valuation τ sig (Elt F))
    (hl : Pipeline.LaunchFacts (nD := nD) (τ := τ) cfgs p) (h : Plain pd p W) :
    Pipeline.RegionSeg (pcfgs (F := F)) adm pd none defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (h.obl c).loose
  hwaits := Pipeline.hwaits_of_owed_zero _ _ _ _ (K (F := F)).L (K (F := F)).lev p h.owed
  pre := arraysAt W
  post := arraysAt (leaves pd p W)
  X c := iprop(∃ r, prngReg c r)
  Y c := iprop(∃ r, prngReg c r)
  Z c := Pipeline.unscopedRest (Ix := HIx 2) (Name := ℕ) (U := UU) (Lvl := ℕ) (cfgs p).spec c fun b => W c (Proc.devRef .tc b)
  hentry c := by
    rw [Pipeline.ownSems0_none]
    have hsplit := Pipeline.arrays_of_unscopedBufs (p := p) (pcfgs (F := F)) adm pd hl.win hl.arr_whole c
      ((pd p c).share_full (h.share c)) (fun b => W c (Proc.devRef .tc b)) (h.arr c)
    rw [Pipeline.unscopedBufs_held] at hsplit
    unfold arraysAt debtFree
    iintro ⟨⟨Hub, Hp, ⟨%B, %hB, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [h.owed, h.recorded]
      iexists B; isplitr
      · ipureintro; exact fun x hx => Or.inl (hB x hx)
      iexact HO
    isplitl [Hp]; · iexact Hp
    iexact Hrest
  hin c := by
    rw [h.inv]; unfold Untouched
    iintro ⟨Hp, -, Hr⟩
    isplitl [Hr]; · iexact Hr
    iexact Hp
  hout c := by
    rw [Pipeline.ownSems0_none, h.inv]; unfold Untouched
    iintro ⟨Hr, Hp⟩
    isplitl [Hp]; · iexact Hp
    isplitr; · iempintro
    iexact Hr
  hexit c := by
    have hjoin := Pipeline.unscopedBufs_of_arrays (p := p) (pcfgs (F := F)) adm (Ix := HIx 2) (Name := ℕ) (U := UU) (Lvl := ℕ)
      hl.win hl.arr_whole c pd ((pd p c).share_full (h.share c))
      (fun b => W c (Proc.devRef .tc b)) (fun b => leaves pd p W c (Proc.devRef .tc b)) ((pd p c).arrAt · (cfgs p).N)
      (fun w => (Pipeline.withArrays_arr (cfgs p).spec hl.win.arr_inj c (W c) (fun w => (pd p c).arrAt w (cfgs p).N) w).symm)
      (fun b hb => Pipeline.withArrays_of_ne (cfgs p).spec c (W c) (fun w => (pd p c).arrAt w (cfgs p).N) b fun w e => hb (Finset.mem_image.mpr ⟨w, Finset.mem_univ _, e⟩))
    rw [Pipeline.unscopedBufs_held] at hjoin
    unfold arraysAt debtFree
    iintro ⟨Ha, HO, HY, Hrest⟩
    imodintro
    isplitl [Ha Hrest]
    · iapply hjoin; isplitl [Ha] <;> iassumption
    isplitl [HY]; · iexact HY
    unfold Pipeline.Dat.owesAt Pipeline.owesWithin Pipeline.Dat.bound
    rw [h.owed, h.recorded]
    icases HO with ⟨%B, %hB, HO⟩
    iexists B; isplitr
    · ipureintro
      intro x hx
      rcases hB hx with h1 | ⟨w, s, e⟩
      · exact h1
      · rw [e]; exact Nat.zero_le _
    iexact HO

set_option backward.isDefEq.respectTransparency.types false in
/-- A region of the program runs from the arrays at `W` to the arrays it leaves. -/
theorem region_runs [∀ e, Nonempty (Elt F e)] (pd : Dats F) (p : Fin 2) (W : Dev nD → Valuation τ sig (Elt F))
    (hl : Pipeline.LaunchFacts (nD := nD) (τ := τ) cfgs p) (h : Plain pd p W) (c : Dev nD) :
    iprop(boundary (SparseCore.T c : Thread nD τ) ∗ arraysAt W c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs D) 𝒱 (SparseCore.T c : Thread nD τ) none) Set.univ
          (Prog.lift (.customCall (SparseCore.inner (Pipeline.entry p)) ()))
          fun _ => iprop(boundary (SparseCore.T c : Thread nD τ) ∗ arraysAt (leaves pd p W) c : sProp 𝕄) := by
  have lifted := fun Q : PUnit → sProp 𝕄 => (K (F := F)).wp_liftProg D 𝒱 (SparseCore.T c : Thread nD τ) Set.univ none
    (Prog.op (.customCall (Pipeline.entry p) ()) fun _ => .ret ⟨⟩) Q
  have region := fun Q : PUnit → sProp 𝕄 => Pipeline.RegionSeg.wp (pcfgs (F := F)) adm pd none cellOf_inj EP defs₀ 𝒱₀ (K (F := F)).L (K (F := F)).lev
    (regionSeg pd p W hl h) c none (fun _ h => nomatch h) (fun _ => .ret ⟨⟩) Q
  refine BIBase.Entails.trans (BIBase.Entails.trans ?_ (region _)) (lifted _)
  iintro ⟨Hb, HW, HL, Hg, Ht⟩
  isplitr [Hb HW HL Hg Ht]
  · iintro ⟨Hb, HW⟩
    rw [wp_ret]
    imodintro
    isplitl [Hb]; · iexact Hb
    iapply (show (regionSeg pd p W hl h).post c ⊢ arraysAt (leaves pd p W) c from .rfl) $$ HW
  isplitl [Hb]; · iexact Hb
  isplitl [HW]; · iapply (show arraysAt W c ⊢ (regionSeg pd p W hl h).pre c from .rfl) $$ HW
  isplitl [HL]; · iexact HL
  isplitl [Hg]; · iexact Hg
  iexact Ht

end Cert.Proof
-- ==== Proof.Region2.lean ====
/-
  The first TensorCore region of the program (the product of the first half of the looked-up rows with its slice of the
  first layer's weights), at any contents of the arrays it is entered with: its body, its proof data, its obligation.
-/
module

public import proofs.«01_k».proof.Proof.RegionBase

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (V : (c : Dev nD) → (b : Ref sig .tc) → Buf (Elt F) ((c : Thread nD τ).loc b))

/-- The block of window `w` at point `t`, read off the window's array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body leaves in its output buffer, from what its input buffers hold. -/
def out2 (x0 : Vec F S832x1024 .f32) (x1 : Vec F S832x1024 .f32) : Vec F S1024x1024 .f32 :=
  View.canon [⟨(Rect.unit (s := S1024x1024) ![0, 0] S1024x1024.size inb_S1024x1024_S1024x1024_0_0), k2_pay1 (View.ld x0 (Rect.unit (s := S832x1024) ![0, 0] S832x1024.size inb_S832x1024_S832x1024_0_0)) (View.ld x1 (Rect.unit (s := S832x1024) ![0, 0] S832x1024.size inb_S832x1024_S832x1024_0_0))⟩]

theorem out2_covers (p : Vec F S1024x1024 .f32) (y : S1024x1024.Idx) :
    ∃ pc ∈ ([⟨(Rect.unit (s := S1024x1024) ![0, 0] S1024x1024.size inb_S1024x1024_S1024x1024_0_0), p⟩] : List (View.Piece (Elt F) S1024x1024 .f32)), y ∈ pc.1.set :=
  View.cover_of_tiled [⟨(Rect.unit (s := S1024x1024) ![0, 0] S1024x1024.size inb_S1024x1024_S1024x1024_0_0), p⟩] S1024x1024.size (by rfl) y

set_option maxHeartbeats 1000000 in
/-- The body on whole buffers: the inputs stay as they are, and the output buffer holds `out2` of them. -/
theorem body2_runs (c : Dev nD) (E : Set ℕ) (i : grid2.Coords) (a0 : Memref sig .tc .vmem S832x1024 .f32) (h0 : a0.IsWhole) (a1 : Memref sig .tc .vmem S832x1024 .f32) (h1 : a1.IsWhole) (a2 : Memref sig .tc .vmem S1024x1024 .f32) (h2 : a2.IsWhole)
    (x0 : Vec F S832x1024 .f32) (x1 : Vec F S832x1024 .f32) (Q : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out2 x0 x1)) -∗ Q ⟨⟩))
      ⊢ wp frame (wpE (defs₀ (F := F)) Variants.none c none) E (cc2__mm_a_body i a0 h0 a1 h1 a2 h2) Q := by
  simp only [cc2__mm_a_body_eq_skeleton]; unfold cc2__mm_a_body_skel
  unfold owns
  iintro ⟨⟨%f0, %e0, H0⟩, ⟨%f1, %e1, H1⟩, ⟨%d, %f, -, H⟩, Hk⟩
  subst e0 e1
  sl_exec
  sl_step
  iapply Hk
  isplitl [H0]; · iapply (owns_back (c : Thread nD τ) a0 fullShare f0) $$ H0
  isplitl [H1]; · iapply (owns_back (c : Thread nD τ) a1 fullShare f1) $$ H1
  iexists _; isplitr
  swap; · iexact H
  ipureintro
  exact View.read_writes_eq_canon _ _ _ (out2_covers _)

/-- The proof data of the region: its arrays as it finds them, every input buffer left at its block, the output buffer
    at `out2` of the blocks, and nothing owed. -/
def dat2 (c : Dev nD) : Dat τ (Elt F) (HIx 2) ℕ UU ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Untouched spec2 c
  q _ := fullShare
  owed _ := 0
  recorded _ := lowPairs (F := F) c 2

theorem dat2_A (c : Dev nD) (w : Fin cfg2.W) : (dat2 V c).A w = V c (Pipeline.arrRef spec2 w) := by
  dsimp only [dat2]

/-- What the body leaves, window by window. -/
theorem dat2_after (c : Dev nD) (t : Fin cfg2.N) :
    (dat2 V c).after 0 t = blk2 V c 0 t
      ∧ (dat2 V c).after 1 t = blk2 V c 1 t
      ∧ (dat2 V c).after 2 t = out2 (blk2 V c 0 t) (blk2 V c 1 t) := by
  refine ⟨?_, ?_, ?_⟩ <;> dsimp only [dat2]

/-- Every input buffer holds its block whenever the body runs. -/
theorem dat2_before (c : Dev nD) (t : Fin cfg2.N) :
    (∀ d, (dat2 V c).before 0 t d = blk2 V c 0 t)
      ∧ (∀ d, (dat2 V c).before 1 t d = blk2 V c 1 t) := by
  refine ⟨?_, ?_⟩ <;> intro d <;>
    exact ((dat2 V c).before_in_eq_fetched _ rfl (fun _ => rfl) (fun _ _ _ => rfl)
      (fun t => by simp only [dat2_after V c t]; unfold Dat.blockOf blk2; rw [dat2_A]; try rfl) t d).trans
      (by unfold Dat.fetched Dat.blockOf blk2; rw [dat2_A]; try rfl)

/-- What the body is handed at point `t`, -/
def handed2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it hands back. -/
def returned2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem point2_runs (c : Dev nD) (t : Fin cfg2.N) :
    handed2 V c t ⊢ wp frame (wpE (defs₀ (F := F)) Variants.none c none) Set.univ (bodyAt2 t) (fun _ => returned2 V c t) := by
  obtain ⟨b0, b1⟩ := dat2_before V c t
  obtain ⟨r0, r1, r2⟩ := dat2_after V c t
  unfold handed2 returned2 bodyAt2
  simp only [b0, b1]
  rw [show (dat2 V c).Φ t.succ = (dat2 V c).Φ t.castSucc from rfl,
    show (dat2 V c).owesAt none t.succ = (dat2 V c).owesAt none t.castSucc from rfl,
    r0, r1, r2]
  iintro ⟨HΦ, Ho, ⟨%d0, H0⟩, ⟨%d1, H1⟩, ⟨%d2, H2⟩⟩
  iapply (body2_runs c Set.univ (grid2.coords t) _ _ _ _ _ _ (blk2 V c 0 t) (blk2 V c 1 t) _)
  isplitl [H0]; · iexact H0
  isplitl [H1]; · iexact H1
  isplitl [H2]; · iexists _; iexact H2
  iintro H
  isplitl [HΦ]; · iexact HΦ
  isplitl [Ho]; · iexact Ho
  iexact H

theorem row2 (t : Fin cfg2.N) : defs₀ (F := F) .tc cfg2.body (cfg2.bodyArgs t (cfg2.slots t)) = bodyAt2 t := by
  rfl

/-- The body obligation of the region, at every point. -/
theorem obligation2 (c : Dev nD) : BodyObligation (dat2 (F := F) V c) (defs₀ (F := F)) Variants.none none Set.univ := fun t => by
  rw [bigSep_W2, bigSep_W2, row2]
  exact triple_restated (point2_runs V c t) rfl .rfl fun _ => .rfl

end Cert.Proof
-- ==== Proof.Region3.lean ====
/-
  The second TensorCore region of the program (the rest of the network on the rows of a block), at any contents of the
  arrays it is entered with: its body, its proof data, its obligation.
-/
module

public import proofs.«01_k».proof.Proof.RegionBase

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (V : (c : Dev nD) → (b : Ref sig .tc) → Buf (Elt F) ((c : Thread nD τ).loc b))

/-- The block of window `w` at point `t`, read off the window's array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in its output buffer, from what its input buffers hold. -/
def out3 (x0 : Vec F S1024x128 .f32) (x1 : Vec F S832x1024 .f32) (x2 : Vec F S1024x1024 .f32) (x3 : Vec F S128x1024 .f32) (x4 : Vec F S832x1024 .f32) (x5 : Vec F S1x1024 .f32) (x6 : Vec F S1024x1024 .f32) (x7 : Vec F S1x1024 .f32) (x8 : Vec F S1024x512 .f32) (x9 : Vec F S1x512 .f32) (x10 : Vec F S512x256 .f32) (x11 : Vec F S1x256 .f32) (x12 : Vec F S256x128 .f32) (x13 : Vec F S1x128 .f32) : Vec F S1024x128 .f32 :=
  View.canon [⟨(Rect.unit (s := S1024x128) ![0, 0] S1024x128.size inb_S1024x128_S1024x128_0_0), k3_pay1 (k3_pay2 (View.ld x2 (Rect.unit (s := S1024x1024) ![0, 0] S1024x1024.size inb_S1024x1024_S1024x1024_0_0)) (View.ld x0 (Rect.unit (s := S1024x128) ![0, 0] S1024x128.size inb_S1024x128_S1024x128_0_0)) (View.ld x3 (Rect.unit (s := S128x1024) ![0, 0] S128x1024.size inb_S128x1024_S128x1024_0_0)) (View.ld x1 (Rect.unit (s := S832x1024) ![0, 0] S832x1024.size inb_S832x1024_S832x1024_0_0)) (View.ld x4 (Rect.unit (s := S832x1024) ![0, 0] S832x1024.size inb_S832x1024_S832x1024_0_0)) (View.ld x5 (Rect.unit (s := S1x1024) ![0, 0] S1x1024.size inb_S1x1024_S1x1024_0_0)) (View.ld x6 (Rect.unit (s := S1024x1024) ![0, 0] S1024x1024.size inb_S1024x1024_S1024x1024_0_0)) (View.ld x7 (Rect.unit (s := S1x1024) ![0, 0] S1x1024.size inb_S1x1024_S1x1024_0_0)) (View.ld x8 (Rect.unit (s := S1024x512) ![0, 0] S1024x512.size inb_S1024x512_S1024x512_0_0))) (k3_pay3 (View.ld x9 (Rect.unit (s := S1x512) ![0, 0] S1x512.size inb_S1x512_S1x512_0_0))) (View.ld x10 (Rect.unit (s := S512x256) ![0, 0] S512x256.size inb_S512x256_S512x256_0_0)) (View.ld x11 (Rect.unit (s := S1x256) ![0, 0] S1x256.size inb_S1x256_S1x256_0_0)) (View.ld x12 (Rect.unit (s := S256x128) ![0, 0] S256x128.size inb_S256x128_S256x128_0_0)) (View.ld x13 (Rect.unit (s := S1x128) ![0, 0] S1x128.size inb_S1x128_S1x128_0_0))⟩]

theorem out3_covers (p : Vec F S1024x128 .f32) (y : S1024x128.Idx) :
    ∃ pc ∈ ([⟨(Rect.unit (s := S1024x128) ![0, 0] S1024x128.size inb_S1024x128_S1024x128_0_0), p⟩] : List (View.Piece (Elt F) S1024x128 .f32)), y ∈ pc.1.set :=
  View.cover_of_tiled [⟨(Rect.unit (s := S1024x128) ![0, 0] S1024x128.size inb_S1024x128_S1024x128_0_0), p⟩] S1024x128.size (by rfl) y

set_option maxHeartbeats 1000000 in
/-- The body on whole buffers: the inputs stay as they are, and the output buffer holds `out3` of them. -/
theorem body3_runs (c : Dev nD) (E : Set ℕ) (i : grid3.Coords) (a0 : Memref sig .tc .vmem S1024x128 .f32) (h0 : a0.IsWhole) (a1 : Memref sig .tc .vmem S832x1024 .f32) (h1 : a1.IsWhole) (a2 : Memref sig .tc .vmem S1024x1024 .f32) (h2 : a2.IsWhole) (a3 : Memref sig .tc .vmem S128x1024 .f32) (h3 : a3.IsWhole) (a4 : Memref sig .tc .vmem S832x1024 .f32) (h4 : a4.IsWhole) (a5 : Memref sig .tc .vmem S1x1024 .f32) (h5 : a5.IsWhole) (a6 : Memref sig .tc .vmem S1024x1024 .f32) (h6 : a6.IsWhole) (a7 : Memref sig .tc .vmem S1x1024 .f32) (h7 : a7.IsWhole) (a8 : Memref sig .tc .vmem S1024x512 .f32) (h8 : a8.IsWhole) (a9 : Memref sig .tc .vmem S1x512 .f32) (h9 : a9.IsWhole) (a10 : Memref sig .tc .vmem S512x256 .f32) (h10 : a10.IsWhole) (a11 : Memref sig .tc .vmem S1x256 .f32) (h11 : a11.IsWhole) (a12 : Memref sig .tc .vmem S256x128 .f32) (h12 : a12.IsWhole) (a13 : Memref sig .tc .vmem S1x128 .f32) (h13 : a13.IsWhole) (a14 : Memref sig .tc .vmem S1024x128 .f32) (h14 : a14.IsWhole)
    (x0 : Vec F S1024x128 .f32) (x1 : Vec F S832x1024 .f32) (x2 : Vec F S1024x1024 .f32) (x3 : Vec F S128x1024 .f32) (x4 : Vec F S832x1024 .f32) (x5 : Vec F S1x1024 .f32) (x6 : Vec F S1024x1024 .f32) (x7 : Vec F S1x1024 .f32) (x8 : Vec F S1024x512 .f32) (x9 : Vec F S1x512 .f32) (x10 : Vec F S512x256 .f32) (x11 : Vec F S1x256 .f32) (x12 : Vec F S256x128 .f32) (x13 : Vec F S1x128 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (out3 x0 x1 x2 x3 x4 x5 x6 x7 x8 x9 x10 x11 x12 x13)) -∗ Q ⟨⟩))
      ⊢ wp frame (wpE (defs₀ (F := F)) Variants.none c none) E (cc3__mlp_body i a0 h0 a1 h1 a2 h2 a3 h3 a4 h4 a5 h5 a6 h6 a7 h7 a8 h8 a9 h9 a10 h10 a11 h11 a12 h12 a13 h13 a14 h14) Q := by
  simp only [cc3__mlp_body_eq_skeleton]; unfold cc3__mlp_body_skel
  simp only [k3_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d, %f, -, H⟩, Hk⟩
  subst e0 e1 e2 e3 e4 e5 e6 e7 e8 e9 e10 e11 e12 e13
  sl_exec
  sl_step
  iapply Hk
  isplitl [H0]; · iapply (owns_back (c : Thread nD τ) a0 fullShare f0) $$ H0
  isplitl [H1]; · iapply (owns_back (c : Thread nD τ) a1 fullShare f1) $$ H1
  isplitl [H2]; · iapply (owns_back (c : Thread nD τ) a2 fullShare f2) $$ H2
  isplitl [H3]; · iapply (owns_back (c : Thread nD τ) a3 fullShare f3) $$ H3
  isplitl [H4]; · iapply (owns_back (c : Thread nD τ) a4 fullShare f4) $$ H4
  isplitl [H5]; · iapply (owns_back (c : Thread nD τ) a5 fullShare f5) $$ H5
  isplitl [H6]; · iapply (owns_back (c : Thread nD τ) a6 fullShare f6) $$ H6
  isplitl [H7]; · iapply (owns_back (c : Thread nD τ) a7 fullShare f7) $$ H7
  isplitl [H8]; · iapply (owns_back (c : Thread nD τ) a8 fullShare f8) $$ H8
  isplitl [H9]; · iapply (owns_back (c : Thread nD τ) a9 fullShare f9) $$ H9
  isplitl [H10]; · iapply (owns_back (c : Thread nD τ) a10 fullShare f10) $$ H10
  isplitl [H11]; · iapply (owns_back (c : Thread nD τ) a11 fullShare f11) $$ H11
  isplitl [H12]; · iapply (owns_back (c : Thread nD τ) a12 fullShare f12) $$ H12
  isplitl [H13]; · iapply (owns_back (c : Thread nD τ) a13 fullShare f13) $$ H13
  iexists _; isplitr
  swap; · iexact H
  ipureintro
  exact View.read_writes_eq_canon _ _ _ (out3_covers _)

/-- The proof data of the region: its arrays as it finds them, every input buffer left at its block, the output buffer
    at `out3` of the blocks, and nothing owed. -/
def dat3 (c : Dev nD) : Dat τ (Elt F) (HIx 2) ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => blk3 V c 10 t
    | ⟨11, _⟩ => blk3 V c 11 t
    | ⟨12, _⟩ => blk3 V c 12 t
    | ⟨13, _⟩ => blk3 V c 13 t
    | ⟨14, _⟩ => out3 (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t)
  Φ _ := Untouched spec3 c
  q _ := fullShare
  owed _ := 0
  recorded _ := lowPairs (F := F) c 2

theorem dat3_A (c : Dev nD) (w : Fin cfg3.W) : (dat3 V c).A w = V c (Pipeline.arrRef spec3 w) := by
  dsimp only [dat3]

/-- What the body leaves, window by window. -/
theorem dat3_after (c : Dev nD) (t : Fin cfg3.N) :
    (dat3 V c).after 0 t = blk3 V c 0 t
      ∧ (dat3 V c).after 1 t = blk3 V c 1 t
      ∧ (dat3 V c).after 2 t = blk3 V c 2 t
      ∧ (dat3 V c).after 3 t = blk3 V c 3 t
      ∧ (dat3 V c).after 4 t = blk3 V c 4 t
      ∧ (dat3 V c).after 5 t = blk3 V c 5 t
      ∧ (dat3 V c).after 6 t = blk3 V c 6 t
      ∧ (dat3 V c).after 7 t = blk3 V c 7 t
      ∧ (dat3 V c).after 8 t = blk3 V c 8 t
      ∧ (dat3 V c).after 9 t = blk3 V c 9 t
      ∧ (dat3 V c).after 10 t = blk3 V c 10 t
      ∧ (dat3 V c).after 11 t = blk3 V c 11 t
      ∧ (dat3 V c).after 12 t = blk3 V c 12 t
      ∧ (dat3 V c).after 13 t = blk3 V c 13 t
      ∧ (dat3 V c).after 14 t = out3 (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) := by
  refine ⟨?_, ?_, ?_, ?_, ?_, ?_, ?_, ?_, ?_, ?_, ?_, ?_, ?_, ?_, ?_⟩ <;> dsimp only [dat3]

/-- Every input buffer holds its block whenever the body runs. -/
theorem dat3_before (c : Dev nD) (t : Fin cfg3.N) :
    (∀ d, (dat3 V c).before 0 t d = blk3 V c 0 t)
      ∧ (∀ d, (dat3 V c).before 1 t d = blk3 V c 1 t)
      ∧ (∀ d, (dat3 V c).before 2 t d = blk3 V c 2 t)
      ∧ (∀ d, (dat3 V c).before 3 t d = blk3 V c 3 t)
      ∧ (∀ d, (dat3 V c).before 4 t d = blk3 V c 4 t)
      ∧ (∀ d, (dat3 V c).before 5 t d = blk3 V c 5 t)
      ∧ (∀ d, (dat3 V c).before 6 t d = blk3 V c 6 t)
      ∧ (∀ d, (dat3 V c).before 7 t d = blk3 V c 7 t)
      ∧ (∀ d, (dat3 V c).before 8 t d = blk3 V c 8 t)
      ∧ (∀ d, (dat3 V c).before 9 t d = blk3 V c 9 t)
      ∧ (∀ d, (dat3 V c).before 10 t d = blk3 V c 10 t)
      ∧ (∀ d, (dat3 V c).before 11 t d = blk3 V c 11 t)
      ∧ (∀ d, (dat3 V c).before 12 t d = blk3 V c 12 t)
      ∧ (∀ d, (dat3 V c).before 13 t d = blk3 V c 13 t) := by
  refine ⟨?_, ?_, ?_, ?_, ?_, ?_, ?_, ?_, ?_, ?_, ?_, ?_, ?_, ?_⟩ <;> intro d <;>
    exact ((dat3 V c).before_in_eq_fetched _ rfl (fun _ => rfl) (fun _ _ _ => rfl)
      (fun t => by simp only [dat3_after V c t]; unfold Dat.blockOf blk3; rw [dat3_A]; try rfl) t d).trans
      (by unfold Dat.fetched Dat.blockOf blk3; rw [dat3_A]; try rfl)

/-- What the body is handed at point `t`, -/
def handed3 (c : Dev nD) (t : Fin cfg3.N) : sProp 𝕄 :=
  iprop((dat3 V c).Φ t.castSucc ∗ (dat3 V c).owesAt none t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

/-- and what it hands back. -/
def returned3 (c : Dev nD) (t : Fin cfg3.N) : sProp 𝕄 :=
  iprop((dat3 V c).Φ t.succ ∗ (dat3 V c).owesAt none t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

theorem point3_runs (c : Dev nD) (t : Fin cfg3.N) :
    handed3 V c t ⊢ wp frame (wpE (defs₀ (F := F)) Variants.none c none) Set.univ (bodyAt3 t) (fun _ => returned3 V c t) := by
  obtain ⟨b0, b1, b2, b3, b4, b5, b6, b7, b8, b9, b10, b11, b12, b13⟩ := dat3_before V c t
  obtain ⟨r0, r1, r2, r3, r4, r5, r6, r7, r8, r9, r10, r11, r12, r13, r14⟩ := dat3_after V c t
  unfold handed3 returned3 bodyAt3
  simp only [b0, b1, b2, b3, b4, b5, b6, b7, b8, b9, b10, b11, b12, b13]
  rw [show (dat3 V c).Φ t.succ = (dat3 V c).Φ t.castSucc from rfl,
    show (dat3 V c).owesAt none t.succ = (dat3 V c).owesAt none t.castSucc from rfl,
    r0, r1, r2, r3, r4, r5, r6, r7, r8, r9, r10, r11, r12, r13, r14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body3_runs c Set.univ (grid3.coords t) _ _ _ _ _ _ _ _ _ _ _ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro H
  isplitl [HΦ]; · iexact HΦ
  isplitl [Ho]; · iexact Ho
  iexact H

theorem row3 (t : Fin cfg3.N) : defs₀ (F := F) .tc cfg3.body (cfg3.bodyArgs t (cfg3.slots t)) = bodyAt3 t := by
  rfl

/-- The body obligation of the region, at every point. -/
theorem obligation3 (c : Dev nD) : BodyObligation (dat3 (F := F) V c) (defs₀ (F := F)) Variants.none none Set.univ := fun t => by
  rw [bigSep_W3, bigSep_W3, row3]
  exact triple_restated (point3_runs V c t) rfl .rfl fun _ => .rfl

end Cert.Proof
-- ==== Proof.Fold.lean ====
/-
  The TensorCore's program as stretches of host operations around the two SparseCore calls and the two TensorCore
  regions, and the contents of all its arrays after each of them, from the contents at launch.
-/
module

public import proofs.«01_k».proof.Proof.Calls
public import proofs.«01_k».proof.Proof.RegionSeg
public import proofs.«01_k».proof.Proof.Region2
public import proofs.«01_k».proof.Proof.Region3

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The operations before the SparseCore calls: the table and the indices laid out for them. -/
abbrev ops0 : List (HloOp τ sig (Elt F)) :=
  [StableHlo.unary main_arg2 main_v0 ((transpose S26x64x100000 [0, 2, 1] · transposes_S26x100000x64_S26x64x100000_0_2_1) : (⟨S26x100000x64, .f32⟩ : BufTy).Contents (Elt F) → (⟨S26x64x100000, .f32⟩ : BufTy).Contents (Elt F)),
   StableHlo.reshape main_v0 main_v1 (rfl : (.f32 : EltTy) = .f32) shapeCasts_S26x64x100000_S1664x100000,
   StableHlo.unary main_arg1 main_v2 ((transpose S26x16384 [1, 0] · transposes_S16384x26_S26x16384_1_0) : (⟨S16384x26, .i32⟩ : BufTy).Contents (Elt F) → (⟨S26x16384, .i32⟩ : BufTy).Contents (Elt F))]

abbrev outs0 : List (Ref sig .tc) := [main_v0, main_v1, main_v2]

theorem ops0_sub : (ops0 (F := F)).Forall fun op => op.bufs ⊆ StableHlo.tcRefs τ sig := by
  simp only [List.forall_cons, List.Forall, StableHlo.unary_bufs_sub, StableHlo.binary_bufs_sub, StableHlo.reshape_bufs_sub, StableHlo.nullary_bufs_sub, and_self]

theorem ops0_fresh : (ops0 (F := F)).Forall fun op => op.fresh = ∅ := StableHlo.forall_fresh_of_map rfl

theorem ops0_outs : (ops0 (F := F)).Forall fun op => op.writes ⊆ (outs0.map (Proc.devRef (τ := τ) .tc)).toFinset :=
  StableHlo.forall_writes_sub_of_map rfl

/-- The operations between the SparseCore calls and the first TensorCore region: two slices of the first layer's weights. -/
abbrev ops1 : List (HloOp τ sig (Elt F)) :=
  [StableHlo.unary main_arg3 main_v5 ((extractStridedSlice S832x1024 ![13, 0] · slices_S1677x1024_S832x1024_13_0) : (⟨S1677x1024, .f32⟩ : BufTy).Contents (Elt F) → (⟨S832x1024, .f32⟩ : BufTy).Contents (Elt F)),
   StableHlo.unary main_arg3 main_v6 ((extractStridedSlice S832x1024 ![845, 0] · slices_S1677x1024_S832x1024_845_0) : (⟨S1677x1024, .f32⟩ : BufTy).Contents (Elt F) → (⟨S832x1024, .f32⟩ : BufTy).Contents (Elt F))]

abbrev outs1 : List (Ref sig .tc) := [main_v5, main_v6]

theorem ops1_sub : (ops1 (F := F)).Forall fun op => op.bufs ⊆ StableHlo.tcRefs τ sig := by
  simp only [List.forall_cons, List.Forall, StableHlo.unary_bufs_sub, StableHlo.binary_bufs_sub, StableHlo.reshape_bufs_sub, StableHlo.nullary_bufs_sub, and_self]

theorem ops1_fresh : (ops1 (F := F)).Forall fun op => op.fresh = ∅ := StableHlo.forall_fresh_of_map rfl

theorem ops1_outs : (ops1 (F := F)).Forall fun op => op.writes ⊆ (outs1.map (Proc.devRef (τ := τ) .tc)).toFinset :=
  StableHlo.forall_writes_sub_of_map rfl

/-- The operations between the two TensorCore regions: the dense input, the weights and the biases padded and laid out. -/
abbrev ops2 : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg0 : StableHlo.TRef sig ⟨S16384x13, .f32⟩) main_call0.v0 main_call0.v1 (fun x v => pad S16384x128 ![0, 0] ![0, 115] ![0, 0] x v pads_S16384x13_S16384x128_000_01150 h_S_),
   StableHlo.unary main_arg3 main_v9 ((extractStridedSlice S13x1024 ![0, 0] · slices_S1677x1024_S13x1024_0_0) : (⟨S1677x1024, .f32⟩ : BufTy).Contents (Elt F) → (⟨S13x1024, .f32⟩ : BufTy).Contents (Elt F)),
   StableHlo.nullary main_c_0 (constantI S_ 32 0#32),
   StableHlo.TRef.unary (.of main_c_0 : StableHlo.TRef sig ⟨S_, .i32⟩) main_call1.v0 (sitofp .f32),
   StableHlo.TRef.binary (.of main_v9 : StableHlo.TRef sig ⟨S13x1024, .f32⟩) main_call1.v0 main_call1.v1 (fun x v => pad S128x1024 ![0, 0] ![115, 0] ![0, 0] x v pads_S13x1024_S128x1024_01150_000 h_S_),
   StableHlo.nullary main_c_1 (constantI S_ 32 0#32),
   StableHlo.TRef.unary (.of main_c_1 : StableHlo.TRef sig ⟨S_, .i32⟩) main_call2.v0 (sitofp .f32),
   StableHlo.TRef.binary (.of main_arg11 : StableHlo.TRef sig ⟨S256x2, .f32⟩) main_call2.v0 main_call2.v1 (fun x v => pad S256x128 ![0, 0] ![0, 126] ![0, 0] x v pads_S256x2_S256x128_000_01260 h_S_),
   StableHlo.nullary main_c_2 (constantI S_ 32 0#32),
   StableHlo.TRef.unary (.of main_c_2 : StableHlo.TRef sig ⟨S_, .i32⟩) main_call3.v0 (sitofp .f32),
   StableHlo.TRef.binary (.of main_arg12 : StableHlo.TRef sig ⟨S2, .f32⟩) main_call3.v0 main_call3.v1 (fun x v => pad S128 ![0] ![126] ![0] x v pads_S2_S128_01260 h_S_),
   StableHlo.reshape main_v12 main_v13 (rfl : (.f32 : EltTy) = .f32) shapeCasts_S128_S1x128,
   StableHlo.reshape main_arg4 main_v14 (rfl : (.f32 : EltTy) = .f32) shapeCasts_S1024_S1x1024,
   StableHlo.reshape main_arg6 main_v15 (rfl : (.f32 : EltTy) = .f32) shapeCasts_S1024_S1x1024,
   StableHlo.reshape main_arg8 main_v16 (rfl : (.f32 : EltTy) = .f32) shapeCasts_S512_S1x512,
   StableHlo.reshape main_arg10 main_v17 (rfl : (.f32 : EltTy) = .f32) shapeCasts_S256_S1x256]

abbrev outs2 : List (Ref sig .tc) := [main_c, main_call0_v0, main_v8, main_v9, main_c_0, main_call1_v0, main_v10, main_c_1, main_call2_v0, main_v11, main_c_2, main_call3_v0, main_v12, main_v13, main_v14, main_v15, main_v16, main_v17]

theorem ops2_sub : (ops2 (F := F)).Forall fun op => op.bufs ⊆ StableHlo.tcRefs τ sig := by
  simp only [List.forall_cons, List.Forall, StableHlo.unary_bufs_sub, StableHlo.binary_bufs_sub, StableHlo.reshape_bufs_sub, StableHlo.nullary_bufs_sub, and_self]

theorem ops2_fresh : (ops2 (F := F)).Forall fun op => op.fresh = ∅ := StableHlo.forall_fresh_of_map rfl

theorem ops2_outs : (ops2 (F := F)).Forall fun op => op.writes ⊆ (outs2.map (Proc.devRef (τ := τ) .tc)).toFinset :=
  StableHlo.forall_writes_sub_of_map rfl

/-- The operation after the regions: the two columns of the result. -/
abbrev ops3 : List (HloOp τ sig (Elt F)) :=
  [StableHlo.unary main_v18 main_v19 ((extractStridedSlice S16384x2 ![0, 0] · slices_S16384x128_S16384x2_0_0) : (⟨S16384x128, .f32⟩ : BufTy).Contents (Elt F) → (⟨S16384x2, .f32⟩ : BufTy).Contents (Elt F))]

abbrev outs3 : List (Ref sig .tc) := [main_v19]

theorem ops3_sub : (ops3 (F := F)).Forall fun op => op.bufs ⊆ StableHlo.tcRefs τ sig := by
  simp only [List.forall_cons, List.Forall, StableHlo.unary_bufs_sub, StableHlo.binary_bufs_sub, StableHlo.reshape_bufs_sub, StableHlo.nullary_bufs_sub, and_self]

theorem ops3_fresh : (ops3 (F := F)).Forall fun op => op.fresh = ∅ := StableHlo.forall_fresh_of_map rfl

theorem ops3_outs : (ops3 (F := F)).Forall fun op => op.writes ⊆ (outs3.map (Proc.devRef (τ := τ) .tc)).toFinset :=
  StableHlo.forall_writes_sub_of_map rfl

set_option maxRecDepth 65536 in
theorem main_chain (d : Dev nD) : main (F := F) d = Pipeline.chain [StableHlo.seq ops0, (K (F := F)).run d 0, (K (F := F)).run d 1, StableHlo.seq ops1,
    Prog.lift (.customCall (SparseCore.inner (Pipeline.entry 0)) ()), StableHlo.seq ops2, Prog.lift (.customCall (SparseCore.inner (Pipeline.entry 1)) ()),
    StableHlo.seq ops3] := by
  rw [StableHlo.chain_seq_cons, Pipeline.chain_cons, Pipeline.chain_cons, StableHlo.chain_seq_cons, Pipeline.chain_cons, StableHlo.chain_seq_cons, Pipeline.chain_cons,
    StableHlo.chain_seq_cons]
  chain_rfl

/-! ## The arrays after each part -/

/-- A valuation read at the TensorCore's references. -/
abbrev reads (W : Dev nD → Valuation τ sig (Elt F)) : (c : Dev nD) → (b : Ref sig .tc) → Buf (Elt F) ((c : Thread nD τ).loc b) :=
  fun c b => W c (Proc.devRef .tc b)

section Fold

variable (m : (ℓ : Loc nD τ sig) → Buf (Elt F) ℓ)

/-- Before the SparseCore calls. -/
def before (d : Dev nD) : Valuation τ sig (Elt F) := StableHlo.after ops0 fun b => m (d, b)
/-- The arrays the SparseCore calls read and write, before them. -/
abbrev atCalls : Vals F := fun d b => before m d (Proc.devRef .tc b)
/-- After the first SparseCore call, -/
def called (d : Dev nD) : Valuation τ sig (Elt F) := filled (before m d) main_v3 (gat (atCalls m) 0 d)
/-- after both, -/
def gathered (d : Dev nD) : Valuation τ sig (Elt F) := filled (called m d) main_v4 (gat (atCalls m) 832 d)
/-- at the first region's entry, -/
def entry2 (d : Dev nD) : Valuation τ sig (Elt F) := StableHlo.after ops1 (gathered m d)
/-- after it, -/
def exit2 (d : Dev nD) : Valuation τ sig (Elt F) :=
  Pipeline.withArrays cfg2.spec d (entry2 m d) fun w => (dat2 (reads (entry2 m)) d).arrAt w cfg2.N
/-- at the second region's entry, -/
def entry3 (d : Dev nD) : Valuation τ sig (Elt F) := StableHlo.after ops2 (exit2 m d)
/-- after it, -/
def exit3 (d : Dev nD) : Valuation τ sig (Elt F) :=
  Pipeline.withArrays cfg3.spec d (entry3 m d) fun w => (dat3 (reads (entry3 m)) d).arrAt w cfg3.N
/-- and at the end. -/
def final (d : Dev nD) : Valuation τ sig (Elt F) := StableHlo.after ops3 (exit3 m d)

/-- The two regions' proof data. -/
def pdat : Dats F := fun p => match p with
  | 0 => fun c => dat2 (reads (entry2 m)) c
  | 1 => fun c => dat3 (reads (entry3 m)) c

theorem plain2 : Plain (pdat m) 0 (entry2 m) where
  arr c w := dat2_A (reads (entry2 m)) c w
  obl c := obligation2 (reads (entry2 m)) c
  inv _ _ := rfl
  share _ _ := rfl
  owed _ _ := rfl
  recorded _ _ := rfl

theorem plain3 : Plain (pdat m) 1 (entry3 m) where
  arr c w := dat3_A (reads (entry3 m)) c w
  obl c := obligation3 (reads (entry3 m)) c
  inv _ _ := rfl
  share _ _ := rfl
  owed _ _ := rfl
  recorded _ _ := rfl

theorem leaves2 (c : Dev nD) : leaves (pdat m) 0 (entry2 m) c = exit2 m c := rfl
theorem leaves3 (c : Dev nD) : leaves (pdat m) 1 (entry3 m) c = exit3 m c := rfl

end Fold

end Cert.Proof
-- ==== Proof.Launch.lean ====
/-
  The program's run: the launch deals the ghost state, the TensorCore's program goes through its parts, and at the end
  every array of the TensorCore holds the contents the parts leave, every semaphore counter reading zero.
-/
module

public import proofs.«01_k».proof.Proof.Fold

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The launch element -/

/-- What the launch deals: the rounds of the SparseCore handshakes and of the pipelines' staging buffers. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- A device's share: the two regions' rounds. -/
def G (F : FTy → Type) [FloatOps F] (d : Dev nD) : sProp (MT nD τ sig (HIx 2) (Elt F) ℕ UU ℕ) :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

theorem two {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

set_option backward.isDefEq.respectTransparency.types false in
theorem deal (U : Vals F) : iprop(ownU (u₀ (F := F)) ∗ (P U).oxCred ∗ (K (F := F)).freeOn (· ∈ (∅ : Finset (GSem nD τ sig))))
    ⊢ (|={Set.univ}=> iprop(BI.own (EH (initOf (K (F := F)).hsCells (K (F := F)).hsToks)) ∗ bigSep Finset.univ (G F)
      ∗ bigSep Finset.univ fun thr : Thread nD τ => bigSep Finset.univ fun q : Fin 2 => (P U).x q thr) : sProp 𝕄) := by
  unfold u₀
  iintro ⟨Hu, -, -⟩
  ihave H := (ownU_pair (nD := nD) (τ := τ) (sig := sig) (Ix := HIx 2) (Val := Elt F) (Name := ℕ) (Lvl := ℕ) _ _) $$ Hu
  icases H with ⟨HH, HR⟩
  ihave H := (own_pair_emb (embR (nD := nD) (τ := τ) (sig := sig) (Ix := HIx 2) (Val := Elt F) (Name := ℕ) (Lvl := ℕ) (A := UH) (B := UPi × Counters)) _ _) $$ HR
  icases H with ⟨HP, -⟩
  ihave H := (Pipeline.fund_ghost (nD := nD) (τ := τ) (Ix := HIx 2) (Val := Elt F) (Name := ℕ) (U := UU) (Lvl := ℕ) cfgs (EP (F := F)) cellOf_inj) $$ [HP]
  · iapply (show BI.own (((Emb.inl : Emb UPi (UPi × Counters)).trans (embR (nD := nD) (τ := τ) (sig := sig) (Ix := HIx 2) (Val := Elt F) (Name := ℕ) (Lvl := ℕ)
        (A := UH) (B := UPi × Counters))) (initOf (Pipeline.cells (nD := nD) (τ := τ) cfgs cellOf_inj) (Pipeline.launchToks (nD := nD) (τ := τ) cfgs cellOf_inj)))
      ⊢ BI.own (EP (F := F) (initOf (Pipeline.cells (nD := nD) (τ := τ) cfgs cellOf_inj) (Pipeline.launchToks (nD := nD) (τ := τ) cfgs cellOf_inj))) from .rfl) $$ HP
  imod H
  icases H with ⟨Hc, Ht⟩
  imodintro
  isplitl [HH]; · iexact HH
  isplitl [Hc Ht]
  · unfold G
    rw [bigSep_sep']
    isplitl [Hc]; · iexact Hc
    iexact Ht
  rw [show (bigSep Finset.univ fun thr : Thread nD τ => bigSep Finset.univ fun q : Fin 2 => (P U).x q thr) = bigSep Finset.univ fun _ => (iprop(emp) : sProp 𝕄) from
    bigSep_congr fun _ _ => bigSep_emp_const _,
    show (bigSep Finset.univ fun _ : Thread nD τ => (iprop(emp) : sProp 𝕄)) = iprop(emp) from bigSep_emp_const _]
  iempintro

/-! ## The TensorCore's program -/

section Run

variable (m : (ℓ : Loc nD τ sig) → Buf (Elt F) ℓ) (ρ : Dev nD → PrngReg)

/-- What a device keeps at the end: its TensorCore's arrays. -/
abbrev FIN (d : Dev nD) : sProp 𝕄 := StableHlo.held (SparseCore.T d : Thread nD τ) (Pipeline.ucRefs τ sig) (final m d)

/-- The operations of a stretch use the TensorCore's arrays only. -/
theorem inside {ops : List (HloOp τ sig (Elt F))} (h : ops.Forall fun op => op.bufs ⊆ StableHlo.tcRefs τ sig) :
    ∀ op ∈ ops, op.bufs ⊆ Pipeline.ucRefs τ sig := fun op ho => Pipeline.sub_ucRefs op ((List.forall_iff_forall_mem.mp h) op ho)

theorem same_calls (d : Dev nD) (b : Ref sig .tc) : before m d (Proc.devRef .tc b) = atCalls m d b := rfl

theorem same_called (d : Dev nD) (b : Ref sig .tc) (h : b ≠ main_v3) : called m d (Proc.devRef .tc b) = atCalls m d b :=
  filled_ne _ _ _ h

set_option backward.isDefEq.respectTransparency.types false in
theorem main_runs [∀ e, Nonempty (Elt F e)] (κ : GSem nD τ sig → ℕ) (d : Dev nD) :
    iprop((K (F := F)).ctx EH (P (atCalls m)) κ ∗ (K (F := F)).tcSt EH d 0 ∗ (K (F := F)).tcRes m ρ d ∗ G F d)
      ⊢ wp frame (wpE ((K (F := F)).defs (D (F := F))) 𝒱 (SparseCore.T d : Thread nD τ) none) Set.univ (main d)
          fun _ => iprop((K (F := F)).tcSt EH d 2 ∗ FIN m d ∗ (K (F := F)).tcEnd d) := by
  unfold SparseCore.Cfg.tcRes SparseCore.Cfg.tcEnd G
  rw [two, two, main_chain, Pipeline.unscopedBufs_held (Val := Elt F) d (fun b => m (d, b))]
  simp only [Pipeline.chain_cons]
  iintro ⟨#Hctx, Hst, ⟨Hb, Hm, Hts, Hp⟩, ⟨Hc0, Hc1⟩, ⟨Ht0, Ht1⟩⟩
  ihave #Hlev := (SparseCore.Cfg.ctx_levAts κ) $$ Hctx
  iapply (StableHlo.wp_seq 𝒱 none Set.univ d (Pipeline.ucRefs τ sig) _ ops0 (inside ops0_sub) (List.forall_iff_forall_mem.mp ops0_fresh)
    (fun b => m (d, b))) $$ [Hb Hm]
  · isplitl [Hb]; · iexact Hb
    iexact Hm
  iintro ⟨Hb, Hm⟩
  rw [wp_bind]
  iapply (wp_wand_r frame (wpE ((K (F := F)).defs (D (F := F))) 𝒱 (SparseCore.T d : Thread nD τ) none) Set.univ)
  isplitl [Hst Hm]
  · iapply (call₀ (atCalls m) κ d (before m d) rfl rfl rfl)
    isplitr; · iexact Hctx
    isplitl [Hst]; · iexact Hst
    iexact Hm
  iintro %_ ⟨Hst, Hm⟩
  rw [wp_bind]
  iapply (wp_wand_r frame (wpE ((K (F := F)).defs (D (F := F))) 𝒱 (SparseCore.T d : Thread nD τ) none) Set.univ)
  isplitl [Hst Hm]
  · iapply (call₁ (atCalls m) κ d (called m d) (same_called m d _ (by decide)) (same_called m d _ (by decide)) (same_called m d _ (by decide)))
    isplitr; · iexact Hctx
    isplitl [Hst]; · iexact Hst
    iexact Hm
  iintro %_ ⟨Hst, Hm⟩
  iapply (StableHlo.wp_seq 𝒱 none Set.univ d (Pipeline.ucRefs τ sig) _ ops1 (inside ops1_sub) (List.forall_iff_forall_mem.mp ops1_fresh)
    (gathered m d)) $$ [Hb Hm]
  · isplitl [Hb]; · iexact Hb
    iexact Hm
  iintro ⟨Hb, Hm⟩
  unfold SparseCore.Cfg.tcSt
  rw [(K (F := F)).Otc_end d (Nat.le_refl 2)]
  icases Hst with ⟨HO, Hst⟩
  rw [wp_bind]
  iapply (wp_wand_r frame (wpE ((K (F := F)).defs (D (F := F))) 𝒱 (SparseCore.T d : Thread nD τ) none) Set.univ)
  isplitl [Hb Hm Hp HO Hc0 Ht0]
  · iapply (region_runs (pdat m) 0 (entry2 m) launch2 (plain2 m) d)
    unfold arraysAt debtFree
    isplitl [Hb]; · iexact Hb
    isplitl [Hm Hp HO]
    · isplitl [Hm]; · iexact Hm
      isplitl [Hp]; · iexists _; iexact Hp
      iexact HO
    isplitr; · iexact Hlev
    isplitl [Hc0]; · iexact Hc0
    iexact Ht0
  unfold arraysAt
  rw [leaves2]
  iintro %_ ⟨Hb, Hm, Hp, HO⟩
  iapply (StableHlo.wp_seq 𝒱 none Set.univ d (Pipeline.ucRefs τ sig) _ ops2 (inside ops2_sub) (List.forall_iff_forall_mem.mp ops2_fresh)
    (exit2 m d)) $$ [Hb Hm]
  · isplitl [Hb]; · iexact Hb
    iexact Hm
  iintro ⟨Hb, Hm⟩
  rw [wp_bind]
  iapply (wp_wand_r frame (wpE ((K (F := F)).defs (D (F := F))) 𝒱 (SparseCore.T d : Thread nD τ) none) Set.univ)
  isplitl [Hb Hm Hp HO Hc1 Ht1]
  · iapply (region_runs (pdat m) 1 (entry3 m) launch3 (plain3 m) d)
    unfold arraysAt
    isplitl [Hb]; · iexact Hb
    isplitl [Hm Hp HO]
    · isplitl [Hm]; · iexact Hm
      isplitl [Hp]; · iexact Hp
      iexact HO
    isplitr; · iexact Hlev
    isplitl [Hc1]; · iexact Hc1
    iexact Ht1
  unfold arraysAt debtFree
  rw [leaves3]
  iintro %_ ⟨Hb, Hm, -, HO⟩
  iapply (StableHlo.wp_seq 𝒱 none Set.univ d (Pipeline.ucRefs τ sig) _ ops3 (inside ops3_sub) (List.forall_iff_forall_mem.mp ops3_fresh)
    (exit3 m d)) $$ [Hb Hm]
  · isplitl [Hb]; · iexact Hb
    iexact Hm
  iintro ⟨Hb, Hm⟩
  rw [show (Pipeline.chain [] : Prog (TpuEff nD τ sig (Elt F) (SparseCore.Sig (ΛP (F := F)) 2) .tc) PUnit) = pure ⟨⟩ from rfl, wp_pure]
  imodintro
  isplitl [HO Hst]
  · isplitl [HO]; · iexact HO
    iexact Hst
  isplitl [Hm]; · iexact Hm
  isplitl [Hb]; · iexact Hb
  iexact Hts

/-- What the end says of a device: its TensorCore's arrays hold the last contents. -/
def fq (d : Dev nD) (s' : Phys nD τ sig (Elt F)) : Prop := ∀ b ∈ Pipeline.ucRefs τ sig, s'.mem.mem (d, b) = final m d b

theorem final_reads (d : Dev nD) (s' : Phys nD τ sig (Elt F)) : iprop(FIN m d ∗ SI s') ⊢ (⌜fq m d s'⌝ : sProp 𝕄) := by
  unfold FIN StableHlo.held fq
  exact (pointsTo_read_all (Ix := HIx 2) (Name := ℕ) (U := UU) (Lvl := ℕ) (Pipeline.ucRefs τ sig) (fun b => (d, b)) (final m d) s').trans sep_elim_left

/-- The program runs, faults nowhere, and ends with every array of the TensorCore at its last contents and every
    semaphore counter zero. -/
theorem run_main [∀ e, Nonempty (Elt F e)] (hU : InRange (atCalls m)) :
    θ_run (Cert.KernelIdeal.defs (F := F)) (Cert.KernelIdeal.threads (F := F)) ⟨m, fun _ => 0, ρ⟩
      fun r => (∀ c : Dev nD, ∀ b ∈ Pipeline.ucRefs τ sig, r.2.mem (c, b) = final m c b) ∧ r.2.sem = fun _ => 0 :=
  SparseCore.Cfg.θ_run_sc_quiescent (K := K (F := F)) (D := D (F := F)) (𝒱 := 𝒱) (EH := EH) (P := P (atCalls m)) (A := ∅) facts v₀
    (fun q hq => match q with
      | 0 => nomatch hq
      | 1 => nomatch hq)
    (fun q _ => match q with
      | 0 => tileObl_first (atCalls m) hU
      | 1 => tileObl_second (atCalls m) hU)
    (fun q _ => SparseCore.Cfg.VecSplit.of_plain (vecSplit (atCalls m) q))
    m ρ main (G F) (FIN m) (u₀ (F := F)) (deal (atCalls m)) (main_runs m ρ) (fq m) (final_reads m) _ (fun _ h hz => ⟨h, hz⟩)

end Run

end Cert.Proof
-- ==== Proof.Frames.lean ====
/-
  What the program leaves alone, and that its indices are in range: no part of it writes an argument, and the
  precondition bounds every index the SparseCore calls read.
-/
module

public import proofs.«01_k».proof.Proof.Launch
public import Idealize.ShloMosaic.Lib.ReduceAll

@[expose] public section

set_option maxRecDepth 16384

noncomputable section

namespace Cert.Proof

open Cert.KernelIdeal Cert.KernelIdeal.Gen

open Idealize.ShloMosaic Idealize.ShloMosaic.TcCoe
open Idealize.ShloMosaic.Pipeline (Dat Cfg Window BodyObligation cellOf)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

section Keeps

variable (m : (ℓ : Loc nD τ sig) → Buf (Elt F) ℓ)

theorem exit2_arr (c : Dev nD) (w : Fin cfg2.W) :
    exit2 m c (Proc.devRef .tc (Pipeline.arrRef spec2 w)) = (dat2 (reads (entry2 m)) c).arrAt w cfg2.N := by
  unfold exit2; exact Pipeline.withArrays_arr spec2 launch2.win.arr_inj c _ _ w

/-- The region leaves every array but its output as it found it. -/
theorem exit2_ne (c : Dev nD) {r : Ref sig .tc} (h : r ≠ main_v7) : exit2 m c (Proc.devRef .tc r) = entry2 m c (Proc.devRef .tc r) := by
  have outs : ∀ w : Fin cfg2.W, (cfg2.win w).isOut = true → Pipeline.arrRef spec2 w = main_v7 := by decide +kernel
  by_cases hw : ∃ w : Fin cfg2.W, Pipeline.arrRef spec2 w = r
  · obtain ⟨w, rfl⟩ := hw
    have hin : (cfg2.win w).isOut = false := by
      by_contra e
      exact h (outs w (by simpa using e))
    exact (exit2_arr m c w).trans (((dat2 (reads (entry2 m)) c).arrAt_in w hin _).trans (dat2_A (reads (entry2 m)) c w))
  · unfold exit2
    exact Pipeline.withArrays_of_ne spec2 c _ _ r fun w e => hw ⟨w, e⟩

theorem exit3_arr (c : Dev nD) (w : Fin cfg3.W) :
    exit3 m c (Proc.devRef .tc (Pipeline.arrRef spec3 w)) = (dat3 (reads (entry3 m)) c).arrAt w cfg3.N := by
  unfold exit3; exact Pipeline.withArrays_arr spec3 launch3.win.arr_inj c _ _ w

/-- The region leaves every array but its output as it found it. -/
theorem exit3_ne (c : Dev nD) {r : Ref sig .tc} (h : r ≠ main_v18) : exit3 m c (Proc.devRef .tc r) = entry3 m c (Proc.devRef .tc r) := by
  have outs : ∀ w : Fin cfg3.W, (cfg3.win w).isOut = true → Pipeline.arrRef spec3 w = main_v18 := by decide +kernel
  by_cases hw : ∃ w : Fin cfg3.W, Pipeline.arrRef spec3 w = r
  · obtain ⟨w, rfl⟩ := hw
    have hin : (cfg3.win w).isOut = false := by
      by_contra e
      exact h (outs w (by simpa using e))
    exact (exit3_arr m c w).trans (((dat3 (reads (entry3 m)) c).arrAt_in w hin _).trans (dat3_A (reads (entry3 m)) c w))
  · unfold exit3
    exact Pipeline.withArrays_of_ne spec3 c _ _ r fun w e => hw ⟨w, e⟩

/-- Every array some part of the program writes. -/
abbrev written : List (Ref sig .tc) := outs0 ++ [main_v3, main_v4] ++ outs1 ++ [main_v7] ++ outs2 ++ [main_v18] ++ outs3

theorem entry2_keeps (c : Dev nD) {r : Ref sig .tc} (h0 : r ∉ outs0) (h3 : r ≠ main_v3) (h4 : r ≠ main_v4) (h1 : r ∉ outs1) :
    entry2 m c (Proc.devRef .tc r) = m (c, Proc.devRef .tc r) := by
  unfold entry2
  rw [StableHlo.after_of_writes_sub ops1 _ ops1_outs h1]
  unfold gathered called before
  rw [filled_ne _ _ _ h4, filled_ne _ _ _ h3, StableHlo.after_of_writes_sub ops0 _ ops0_outs h0]

/-- An array no part of the program writes ends as it was at launch. -/
theorem final_keeps (c : Dev nD) {r : Ref sig .tc} (h : r ∉ written) : final m c (Proc.devRef .tc r) = m (c, Proc.devRef .tc r) := by
  simp only [written, List.mem_append, List.mem_singleton, not_or] at h
  obtain ⟨⟨⟨⟨⟨⟨h0, h34⟩, h1⟩, h7⟩, h2⟩, h18⟩, h19⟩ := h
  simp only [List.mem_cons, List.not_mem_nil, or_false, not_or] at h34
  unfold final
  rw [StableHlo.after_of_writes_sub ops3 _ ops3_outs (by simpa using h19), exit3_ne m c h18]
  unfold entry3
  rw [StableHlo.after_of_writes_sub ops2 _ ops2_outs h2, exit2_ne m c h7, entry2_keeps m c h0 h34.1 h34.2 h1]

/-! ## The indices -/

/-- What the SparseCore calls read as indices are the launch's, transposed. -/
theorem atCalls_indices (d : Dev nD) (z : S26x16384.Idx) :
    ∃ y : S16384x26.Idx, (atCalls m d main_v2 z : BitVec 32) = m ((SparseCore.T d : Thread nD τ).loc main_arg1) y := by
  have e : before m d (Proc.devRef .tc main_v2)
      = transpose S26x16384 [1, 0] (m (d, Proc.devRef .tc main_arg1)) transposes_S16384x26_S26x16384_1_0 := by
    unfold before
    after_results
  refine ⟨_, (congrFun e z).trans rfl⟩

theorem small_of_signed {v : BitVec 32} (h0 : 0 ≤ v.toInt) (h1 : v.toInt < 100000) : v.toNat < 100000 := by
  rw [BitVec.toInt_eq_toNat_cond] at h0 h1
  have := v.isLt
  split at h0 <;> split at h1 <;> omega

theorem inRange_of_all (h : ∀ (d : Dev nD) (y : S16384x26.Idx), 0 ≤ (m ((SparseCore.T d : Thread nD τ).loc main_arg1) y : BitVec 32).toInt
    ∧ (m ((SparseCore.T d : Thread nD τ).loc main_arg1) y : BitVec 32).toInt < 100000) : InRange (atCalls m) := by
  intro d z
  obtain ⟨y, e⟩ := atCalls_indices m d z
  rw [e]
  exact small_of_signed (h d y).1 (h d y).2

/-- The precondition, decoded: every index is a row of the table. -/
theorem all_of_pre {x0 x2 x3 x4 x5 x6 x7 x8 x9 x10 x11 x12} {x1 : IVec S16384x26 32}
    (h : Cert.Pre_in_range.fn (F := F) x0 x1 x2 x3 x4 x5 x6 x7 x8 x9 x10 x11 x12 = fun _ => 1#1) (y : S16384x26.Idx) :
    0 ≤ (x1 y).toInt ∧ (x1 y).toInt < 100000 := by
  have e := congrFun h (fun a => a.elim0)
  unfold Cert.Pre_in_range.fn at e
  haveI : Subsingleton Cert.Pre_in_range.S_.Idx := ⟨fun a b => funext fun i => i.elim0⟩
  have e1 := Host.reduce_andi_all _ _ _ _ _ e y
  have e2 : IntOp.andi (IntOp.cmpi .sge (x1 y) 0#32) (IntOp.cmpi .slt (x1 y) 100000#32) = 1#1 := e1
  have both : ∀ a b : BitVec 1, IntOp.andi a b = 1#1 → a = 1#1 ∧ b = 1#1 := by decide
  obtain ⟨ha, hb⟩ := both _ _ e2
  exact ⟨by simpa using IntOp.cmpi_sge.1 ha, by simpa using IntOp.cmpi_slt.1 hb⟩

end Keeps

/-! ## The frames -/

theorem mem_arrays (b : Ref sig .tc) (h : ¬ b.isScoped) : (Proc.devRef .tc b : DevRef τ sig) ∈ Pipeline.ucRefs τ sig :=
  Finset.mem_filter.mpr ⟨StableHlo.devRef_mem_tcRefs b, h⟩

/-- An array nothing writes, read at the end of a run that ends at the last contents. -/
theorem unchanged {m : (ℓ : Loc nD τ sig) → Buf (Elt F) ℓ} {c : Dev nD} {s : MemSt nD τ sig (Elt F)}
    (h : ∀ b ∈ Pipeline.ucRefs τ sig, s.mem (c, b) = final m c b) (r : Ref sig .tc) (hs : ¬ r.isScoped) (hr : r ∉ written) :
    s.mem ((c : Thread nD τ).loc r) = m ((c : Thread nD τ).loc r) :=
  (h _ (mem_arrays r hs)).trans (final_keeps m c hr)

/-- Every argument ends as it was at launch. -/
theorem arguments {m : (ℓ : Loc nD τ sig) → Buf (Elt F) ℓ} {c : Dev nD} {s : MemSt nD τ sig (Elt F)}
    (h : ∀ b ∈ Pipeline.ucRefs τ sig, s.mem (c, b) = final m c b) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12) :=
  ⟨unchanged h main_arg0 (by decide) (by decide),
    unchanged h main_arg1 (by decide) (by decide),
    unchanged h main_arg2 (by decide) (by decide),
    unchanged h main_arg3 (by decide) (by decide),
    unchanged h main_arg4 (by decide) (by decide),
    unchanged h main_arg5 (by decide) (by decide),
    unchanged h main_arg6 (by decide) (by decide),
    unchanged h main_arg7 (by decide) (by decide),
    unchanged h main_arg8 (by decide) (by decide),
    unchanged h main_arg9 (by decide) (by decide),
    unchanged h main_arg10 (by decide) (by decide),
    unchanged h main_arg11 (by decide) (by decide),
    unchanged h main_arg12 (by decide) (by decide)⟩

/-- The program runs, every argument ends as it was at launch, and every semaphore counter reads zero. -/
def FrameAt (m : (ℓ : Loc nD τ sig) → Buf (Elt F) ℓ) (ρ : Dev nD → PrngReg) : Prop :=
    θ_run (Cert.KernelIdeal.defs (F := F)) (Cert.KernelIdeal.threads (F := F)) ⟨m, fun _ => 0, ρ⟩ fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)) ∧ r.2.sem = fun _ => 0

theorem frame_any [∀ e, Nonempty (Elt F e)] (m : (ℓ : Loc nD τ sig) → Buf (Elt F) ℓ) (ρ : Dev nD → PrngReg) (hU : InRange (atCalls m)) : FrameAt m ρ :=
  (θ_run (Cert.KernelIdeal.defs (F := F)) _ _).mono (fun _ h => ⟨fun c => arguments (h.1 c), h.2⟩) (run_main (F := F) m ρ hU)

theorem frame_ideal : Cert.quiescent_KernelIdeal := fun m ρ hpre =>
  frame_any (F := Ideal) m ρ (inRange_of_all m fun d y => all_of_pre (hpre d) y)

/-- The program printed for the machine's floats is the program printed for the reals, read at the machine's floats. -/
theorem kernel_claim : Cert.quiescent_Kernel
    = ∀ (m : (ℓ : Loc nD τ sig) → Buf (Elt Bits) ℓ) (ρ : Dev nD → PrngReg), Cert.Pre_Kernel m → FrameAt m ρ := by
  chain_rfl

theorem frame_kernel : Cert.quiescent_Kernel := kernel_claim.mpr fun m ρ hpre =>
  frame_any (F := Bits) m ρ (inRange_of_all m fun d y => all_of_pre (hpre d) y)

end Cert.Proof
-- ==== Proof.Reference.lean ====
/-
  The reference program's frame: its generated run, read at the arguments; it declares no semaphore.
-/
module

public import proofs.«01_k».proof.Defs
public import proofs.«01_k».proof.Proof.Gen.ReferenceIdeal
public import proofs.«01_k».proof.Proof.Gen.Pre_in_range
public import proofs.«01_k».proof.Proof.Gen.ReferenceIdeal.Run
public import Idealize.ShloMosaic.Lib.Quiescent

@[expose] public section

noncomputable section

namespace Cert.Proof

open Idealize.ShloMosaic Idealize.SL.Sem

/-- The reference ends with its arguments unchanged and every counter at zero. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The same with indices in range. -/
theorem frame_reference_in_range : Cert.quiescent_ReferenceIdeal_pre_in_range := fun m ρ _ => frame_reference m ρ trivial

end Cert.Proof

end
-- ==== Proof.Entry.lean ====
/-
  The arrays the TensorCore regions are entered with, in terms of the launch's arguments.
-/
module

public import proofs.«01_k».proof.Proof.Frames

@[expose] public section

set_option maxRecDepth 16384

noncomputable section

namespace Cert.Proof

open Cert.KernelIdeal Cert.KernelIdeal.Gen
open Idealize.ShloMosaic Idealize.ShloMosaic.TcCoe

variable {F : FTy → Type} [FloatOps F] (m : (ℓ : Loc nD τ sig) → Buf (Elt F) ℓ) (c : Dev nD)

/-- An array that no part before the second region writes is there as it was at launch. -/
theorem exit2_keeps {r : Ref sig .tc} (h0 : r ∉ outs0) (h3 : r ≠ main_v3) (h4 : r ≠ main_v4) (h1 : r ∉ outs1) (h7 : r ≠ main_v7) :
    exit2 m c (Proc.devRef .tc r) = m (c, Proc.devRef .tc r) :=
  (exit2_ne m c h7).trans (entry2_keeps m c h0 h3 h4 h1)

theorem gathered_v3 : gathered m c (Proc.devRef .tc main_v3) = gat (atCalls m) 0 c := by
  unfold gathered called
  rw [filled_ne _ _ _ (by decide), filled_self]

theorem gathered_v4 : gathered m c (Proc.devRef .tc main_v4) = gat (atCalls m) 832 c := by
  unfold gathered
  rw [filled_self]

theorem gathered_arg3 : gathered m c (Proc.devRef .tc main_arg3) = m (c, Proc.devRef .tc main_arg3) := by
  unfold gathered called before
  rw [filled_ne _ _ _ (by decide), filled_ne _ _ _ (by decide), StableHlo.after_of_writes_sub ops0 _ ops0_outs (by decide)]

theorem before_v1 : before m c (Proc.devRef .tc main_v1)
    = shapeCast S1664x100000 (transpose S26x64x100000 [0, 2, 1] (m (c, Proc.devRef .tc main_arg2)) transposes_S26x100000x64_S26x64x100000_0_2_1)
        shapeCasts_S26x64x100000_S1664x100000 := by
  unfold before
  after_results
  rfl

theorem before_v2 : before m c (Proc.devRef .tc main_v2)
    = transpose S26x16384 [1, 0] (m (c, Proc.devRef .tc main_arg1)) transposes_S16384x26_S26x16384_1_0 := by
  unfold before
  after_results

theorem entry2_v3 : entry2 m c (Proc.devRef .tc main_v3) = gat (atCalls m) 0 c :=
  (StableHlo.after_of_writes_sub ops1 _ ops1_outs (by decide)).trans (gathered_v3 m c)

theorem entry2_v4 : entry2 m c (Proc.devRef .tc main_v4) = gat (atCalls m) 832 c :=
  (StableHlo.after_of_writes_sub ops1 _ ops1_outs (by decide)).trans (gathered_v4 m c)

theorem entry2_v5 : entry2 m c (Proc.devRef .tc main_v5)
    = extractStridedSlice S832x1024 ![13, 0] (m (c, Proc.devRef .tc main_arg3)) slices_S1677x1024_S832x1024_13_0 := by
  rw [← gathered_arg3 m c]
  unfold entry2
  after_results

theorem entry2_v6 : entry2 m c (Proc.devRef .tc main_v6)
    = extractStridedSlice S832x1024 ![845, 0] (m (c, Proc.devRef .tc main_arg3)) slices_S1677x1024_S832x1024_845_0 := by
  rw [← gathered_arg3 m c]
  unfold entry2
  after_results

theorem entry3_v4 : entry3 m c (Proc.devRef .tc main_v4) = gat (atCalls m) 832 c :=
  (StableHlo.after_of_writes_sub ops2 _ ops2_outs (by decide)).trans ((exit2_ne m c (by decide)).trans (entry2_v4 m c))

theorem entry3_v6 : entry3 m c (Proc.devRef .tc main_v6)
    = extractStridedSlice S832x1024 ![845, 0] (m (c, Proc.devRef .tc main_arg3)) slices_S1677x1024_S832x1024_845_0 :=
  (StableHlo.after_of_writes_sub ops2 _ ops2_outs (by decide)).trans ((exit2_ne m c (by decide)).trans (entry2_v6 m c))

theorem entry3_v7 : entry3 m c (Proc.devRef .tc main_v7) = (dat2 (reads (entry2 m)) c).arrAt 2 cfg2.N :=
  (StableHlo.after_of_writes_sub ops2 _ ops2_outs (by decide)).trans (exit2_arr m c 2)

/-- The weights that go to the second region as they are. -/
theorem entry3_keeps {r : Ref sig .tc} (h0 : r ∉ outs0) (h3 : r ≠ main_v3) (h4 : r ≠ main_v4) (h1 : r ∉ outs1) (h7 : r ≠ main_v7) (h2 : r ∉ outs2) :
    entry3 m c (Proc.devRef .tc r) = m (c, Proc.devRef .tc r) :=
  (StableHlo.after_of_writes_sub ops2 _ ops2_outs h2).trans (exit2_keeps m c h0 h3 h4 h1 h7)

/-- The zero the host pads with. -/
def padZero (F : FTy → Type) [FloatOps F] : Vec F S_ .f32 := sitofp .f32 (constantI S_ 32 0#32)

theorem entry3_v8 : entry3 m c (Proc.devRef .tc main_v8)
    = pad S16384x128 ![0, 0] ![0, 115] ![0, 0] (m (c, Proc.devRef .tc main_arg0)) (padZero F) pads_S16384x13_S16384x128_000_01150 h_S_ := by
  rw [← exit2_keeps m c (r := main_arg0) (by decide) (by decide) (by decide) (by decide) (by decide)]
  unfold entry3
  after_results
  rfl

theorem entry3_v10 : entry3 m c (Proc.devRef .tc main_v10)
    = pad S128x1024 ![0, 0] ![115, 0] ![0, 0] (extractStridedSlice S13x1024 ![0, 0] (m (c, Proc.devRef .tc main_arg3)) slices_S1677x1024_S13x1024_0_0)
        (padZero F) pads_S13x1024_S128x1024_01150_000 h_S_ := by
  rw [← exit2_keeps m c (r := main_arg3) (by decide) (by decide) (by decide) (by decide) (by decide)]
  unfold entry3
  after_results
  rfl

theorem entry3_v11 : entry3 m c (Proc.devRef .tc main_v11)
    = pad S256x128 ![0, 0] ![0, 126] ![0, 0] (m (c, Proc.devRef .tc main_arg11)) (padZero F) pads_S256x2_S256x128_000_01260 h_S_ := by
  rw [← exit2_keeps m c (r := main_arg11) (by decide) (by decide) (by decide) (by decide) (by decide)]
  unfold entry3
  after_results
  rfl

theorem entry3_v13 : entry3 m c (Proc.devRef .tc main_v13)
    = shapeCast S1x128 (pad S128 ![0] ![126] ![0] (m (c, Proc.devRef .tc main_arg12)) (padZero F) pads_S2_S128_01260 h_S_) shapeCasts_S128_S1x128 := by
  rw [← exit2_keeps m c (r := main_arg12) (by decide) (by decide) (by decide) (by decide) (by decide)]
  unfold entry3
  after_results
  rfl

theorem entry3_v14 : entry3 m c (Proc.devRef .tc main_v14) = shapeCast S1x1024 (m (c, Proc.devRef .tc main_arg4)) shapeCasts_S1024_S1x1024 := by
  rw [← exit2_keeps m c (r := main_arg4) (by decide) (by decide) (by decide) (by decide) (by decide)]
  unfold entry3
  after_results
  rfl

theorem entry3_v15 : entry3 m c (Proc.devRef .tc main_v15) = shapeCast S1x1024 (m (c, Proc.devRef .tc main_arg6)) shapeCasts_S1024_S1x1024 := by
  rw [← exit2_keeps m c (r := main_arg6) (by decide) (by decide) (by decide) (by decide) (by decide)]
  unfold entry3
  after_results
  rfl

theorem entry3_v16 : entry3 m c (Proc.devRef .tc main_v16) = shapeCast S1x512 (m (c, Proc.devRef .tc main_arg8)) shapeCasts_S512_S1x512 := by
  rw [← exit2_keeps m c (r := main_arg8) (by decide) (by decide) (by decide) (by decide) (by decide)]
  unfold entry3
  after_results
  rfl

theorem entry3_v17 : entry3 m c (Proc.devRef .tc main_v17) = shapeCast S1x256 (m (c, Proc.devRef .tc main_arg10)) shapeCasts_S256_S1x256 := by
  rw [← exit2_keeps m c (r := main_arg10) (by decide) (by decide) (by decide) (by decide) (by decide)]
  unfold entry3
  after_results
  rfl

theorem final_v19 : final m c (Proc.devRef .tc main_v19)
    = extractStridedSlice S16384x2 ![0, 0] (exit3 m c (Proc.devRef .tc main_v18)) slices_S16384x128_S16384x2_0_0 := by
  unfold final
  after_results

theorem exit3_v18 : exit3 m c (Proc.devRef .tc main_v18) = (dat3 (reads (entry3 m)) c).arrAt 14 cfg3.N := exit3_arr m c 14

end Cert.Proof

end
-- ==== Proof.Net.lean ====
/-
  The network as plain mathematics over the extended reals: one dense layer, its rectifier, the layers after the first,
  and the sums that relate the two ways the first layer is written.
-/
module

public import Idealize.ShloMosaic.PureOps.Ideal

@[expose] public section

set_option maxRecDepth 16384

noncomputable section

namespace Cert.Proof

open scoped BigOperators

/-- The rectifier. -/
def relu (x : EReal) : EReal := max x 0

/-- One dense layer: the product with the weights and the bias. -/
def dense {K N : ℕ} (w : Fin K → Fin N → EReal) (b : Fin N → EReal) (x : Fin K → EReal) (n : Fin N) : EReal :=
  (∑ k, x k * w k n) + b n

/-- The layers after the first, from what the first one gives. -/
def later {N : ℕ} (w1 : Fin 1024 → Fin 1024 → EReal) (b1 : Fin 1024 → EReal) (w2 : Fin 1024 → Fin 512 → EReal) (b2 : Fin 512 → EReal)
    (w3 : Fin 512 → Fin 256 → EReal) (b3 : Fin 256 → EReal) (w4 : Fin 256 → Fin N → EReal) (b4 : Fin N → EReal)
    (h : Fin 1024 → EReal) : Fin N → EReal :=
  dense w4 b4 fun k => relu (dense w3 b3 (fun k => relu (dense w2 b2 (fun k => relu (dense w1 b1 (fun k => relu (h k)) k)) k)) k)

/-- A sum over `a + b` positions is the sum over the first `a` and the sum over the last `b`. -/
theorem sum_cut {a b n : ℕ} (h : n = a + b) (f : Fin n → EReal) :
    ∑ k, f k = (∑ k : Fin a, f ⟨k, by omega⟩) + ∑ k : Fin b, f ⟨a + k, by omega⟩ := by
  subst h
  rw [Fin.sum_univ_add]
  rfl

/-- A sum over positions that are zero from `a` on is the sum over the first `a`. -/
theorem sum_head {a b n : ℕ} (h : n = a + b) (f : Fin n → EReal) (hf : ∀ k : Fin n, a ≤ k.val → f k = 0) :
    ∑ k, f k = ∑ k : Fin a, f ⟨k, by omega⟩ := by
  rw [sum_cut h, Finset.sum_eq_zero (s := (Finset.univ : Finset (Fin b))) fun k _ => hf _ (Nat.le_add_right _ _), add_zero]

/-- The first layer's sum over all 1677 inputs, from the 13 dense ones and the two halves of the embeddings. -/
theorem sum_first (f : Fin 1677 → EReal) :
    ∑ k, f k = ((∑ k : Fin 832, f ⟨13 + k, by omega⟩) + ∑ k : Fin 13, f ⟨k, by omega⟩) + ∑ k : Fin 832, f ⟨845 + k, by omega⟩ := by
  rw [sum_cut (a := 13) (b := 1664) rfl, sum_cut (a := 832) (b := 832) rfl (fun k : Fin 1664 => f ⟨13 + k, by omega⟩), ← add_assoc,
    add_comm (∑ k : Fin 832, f ⟨13 + k, by omega⟩)]
  refine congrArg₂ (· + ·) rfl (Finset.sum_congr rfl fun k _ => congrArg f (Fin.ext ?_))
  simp only []; omega

end Cert.Proof

end
-- ==== Proof.Payload.lean ====
/-
  What the bodies of the two TensorCore regions compute over the extended reals, read at one row and one column.
-/
module

public import proofs.«01_k».proof.Proof.Net
public import proofs.«01_k».proof.Proof.Region2
public import proofs.«01_k».proof.Proof.Region3
public import Idealize.ShloMosaic.Lib.Pointwise
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe
open scoped BigOperators

/-- The first region: a product over the 832 rows of its two blocks. -/
theorem out2_apply (x0 x1 : Vec Ideal S832x1024 .f32) (r c : Fin 1024) :
    out2 x0 x1 (ix2 r c) = ∑ k : Fin 832, x0 (ix2 k r) * x1 (ix2 k c) := by
  unfold out2
  frame_out
  pointwise [k2_pay1]

/-- The second region: the layers, from the three parts of the first one's sum. -/
theorem out3_apply (x0 : Vec Ideal S1024x128 .f32) (x1 : Vec Ideal S832x1024 .f32) (x2 : Vec Ideal S1024x1024 .f32) (x3 : Vec Ideal S128x1024 .f32)
    (x4 : Vec Ideal S832x1024 .f32) (x5 : Vec Ideal S1x1024 .f32) (x6 : Vec Ideal S1024x1024 .f32) (x7 : Vec Ideal S1x1024 .f32)
    (x8 : Vec Ideal S1024x512 .f32) (x9 : Vec Ideal S1x512 .f32) (x10 : Vec Ideal S512x256 .f32) (x11 : Vec Ideal S1x256 .f32)
    (x12 : Vec Ideal S256x128 .f32) (x13 : Vec Ideal S1x128 .f32) (r : Fin 1024) (c : Fin 128) :
    out3 x0 x1 x2 x3 x4 x5 x6 x7 x8 x9 x10 x11 x12 x13 (ix2 r c)
      = later (fun k n => x6 (ix2 k n)) (fun n => x7 (ix2 0 n)) (fun k n => x8 (ix2 k n)) (fun n => x9 (ix2 0 n))
          (fun k n => x10 (ix2 k n)) (fun n => x11 (ix2 0 n)) (fun k n => x12 (ix2 k n)) (fun n => x13 (ix2 0 n))
          (fun n => ((x2 (ix2 r n) + ∑ k : Fin 128, x0 (ix2 r k) * x3 (ix2 k n)) + ∑ k : Fin 832, x1 (ix2 k r) * x4 (ix2 k n)) + x5 (ix2 0 n)) c := by
  unfold out3 later dense relu
  frame_out
  pointwise [k3_pay1, k3_pay2, k3_pay3]

end Cert.Proof

end
-- ==== Proof.Arrays.lean ====
/-
  What the two TensorCore regions leave in their output arrays over the extended reals, read at one row and one column.
-/
module

public import proofs.«01_k».proof.Proof.Payload

@[expose] public section

set_option maxRecDepth 16384

noncomputable section

namespace Cert.Proof

open Cert.KernelIdeal Cert.KernelIdeal.Gen
open Idealize.ShloMosaic Idealize.ShloMosaic.TcCoe
open scoped BigOperators

variable (V : (c : Dev nD) → (b : Ref sig .tc) → Buf (Elt Ideal) ((c : Thread nD τ).loc b))

theorem index2 : ∀ t : Fin cfg2.N, win2_0.index t = ![0, t.val] ∧ win2_1.index t = ![0, 0] ∧ win2_2.index t = ![t.val, 0] :=
  (by decide +kernel : ∀ t : Fin grid2.N, _)

/-- The product the first region leaves, of its two input arrays. -/
def half (X : Vec Ideal S832x16384 .f32) (W : Vec Ideal S832x1024 .f32) : Vec Ideal S16384x1024 .f32 :=
  fun i => ∑ k : Fin 832, X (ix2 k (i 0)) * W (ix2 k (i 1))

theorem array2 (c : Dev nD) : (dat2 V c).arrAt 2 cfg2.N = half (V c main_v3) (V c main_v5) := by
  refine (dat2 V c).arrAt_eq_of_covers 2 _ (by decide +kernel) fun t hf y => ?_
  blk_simp
  rw [(dat2_after V c t).2.2]
  obtain ⟨r, q, rfl⟩ : ∃ r q : Fin 1024, y = ix2 r q := ⟨y 0, y 1, eq_ix2 y⟩
  refine (out2_apply _ _ r q).trans ?_
  unfold half
  blk_point [blk2, index2 t]

theorem index3 : ∀ t : Fin cfg3.N, win3_0.index t = ![t.val, 0] ∧ win3_1.index t = ![0, t.val] ∧ win3_2.index t = ![t.val, 0]
    ∧ win3_3.index t = ![0, 0] ∧ win3_4.index t = ![0, 0] ∧ win3_5.index t = ![0, 0] ∧ win3_6.index t = ![0, 0] ∧ win3_7.index t = ![0, 0]
    ∧ win3_8.index t = ![0, 0] ∧ win3_9.index t = ![0, 0] ∧ win3_10.index t = ![0, 0] ∧ win3_11.index t = ![0, 0]
    ∧ win3_12.index t = ![0, 0] ∧ win3_13.index t = ![0, 0] ∧ win3_14.index t = ![t.val, 0] :=
  (by decide +kernel : ∀ t : Fin grid3.N, _)

set_option maxHeartbeats 4000000 in
/-- The windows that hold a whole array show it unchanged at every point, -/
theorem whole3 (c : Dev nD) (t : Fin cfg3.N) :
    blk3 V c 3 t = V c main_v10 ∧ blk3 V c 4 t = V c main_v6 ∧ blk3 V c 5 t = V c main_v14 ∧ blk3 V c 6 t = V c main_arg5
      ∧ blk3 V c 7 t = V c main_v15 ∧ blk3 V c 8 t = V c main_arg7 ∧ blk3 V c 9 t = V c main_v16 ∧ blk3 V c 10 t = V c main_arg9
      ∧ blk3 V c 11 t = V c main_v17 ∧ blk3 V c 12 t = V c main_v11 ∧ blk3 V c 13 t = V c main_v13 := by
  obtain ⟨-, -, -, e3, e4, e5, e6, e7, e8, e9, e10, e11, e12, e13, -⟩ := index3 t
  refine ⟨?_, ?_, ?_, ?_, ?_, ?_, ?_, ?_, ?_, ?_, ?_⟩ <;> funext i <;> blk_ext [blk3, e3, e4, e5, e6, e7, e8, e9, e10, e11, e12, e13]

/-- the row of the arrays that row `r` of point `t`'s blocks is, -/
def rowAt (t : Fin cfg3.N) (r : Fin 1024) : Fin 16384 := ⟨t.val * 1024 + r.val, by have := t.isLt; have : cfg3.N = 16 := rfl; omega⟩

/-- and the other three windows show the 1024 rows of their point. -/
theorem rows3 (c : Dev nD) (t : Fin cfg3.N) (r : Fin 1024) :
    (∀ k : Fin 128, blk3 V c 0 t (ix2 r k) = V c main_v8 (ix2 (rowAt t r) k))
      ∧ (∀ k : Fin 832, blk3 V c 1 t (ix2 k r) = V c main_v4 (ix2 k (rowAt t r)))
      ∧ (∀ k : Fin 1024, blk3 V c 2 t (ix2 r k) = V c main_v7 (ix2 (rowAt t r) k)) := by
  obtain ⟨e0, e1, e2, -⟩ := index3 t
  unfold rowAt
  refine ⟨?_, ?_, ?_⟩ <;> intro k <;> blk_ext [blk3, e0, e1, e2]

/-- The layers the second region computes, of its fourteen input arrays. -/
def deep (x0 : Vec Ideal S16384x128 .f32) (x1 : Vec Ideal S832x16384 .f32) (x2 : Vec Ideal S16384x1024 .f32) (x3 : Vec Ideal S128x1024 .f32)
    (x4 : Vec Ideal S832x1024 .f32) (x5 : Vec Ideal S1x1024 .f32) (x6 : Vec Ideal S1024x1024 .f32) (x7 : Vec Ideal S1x1024 .f32)
    (x8 : Vec Ideal S1024x512 .f32) (x9 : Vec Ideal S1x512 .f32) (x10 : Vec Ideal S512x256 .f32) (x11 : Vec Ideal S1x256 .f32)
    (x12 : Vec Ideal S256x128 .f32) (x13 : Vec Ideal S1x128 .f32) : Vec Ideal S16384x128 .f32 := fun i =>
  later (fun k n => x6 (ix2 k n)) (fun n => x7 (ix2 0 n)) (fun k n => x8 (ix2 k n)) (fun n => x9 (ix2 0 n))
    (fun k n => x10 (ix2 k n)) (fun n => x11 (ix2 0 n)) (fun k n => x12 (ix2 k n)) (fun n => x13 (ix2 0 n))
    (fun n => ((x2 (ix2 (i 0) n) + ∑ k : Fin 128, x0 (ix2 (i 0) k) * x3 (ix2 k n)) + ∑ k : Fin 832, x1 (ix2 k (i 0)) * x4 (ix2 k n)) + x5 (ix2 0 n)) (i 1)

theorem array3 (c : Dev nD) : (dat3 V c).arrAt 14 cfg3.N = deep (V c main_v8) (V c main_v4) (V c main_v7) (V c main_v10) (V c main_v6) (V c main_v14)
    (V c main_arg5) (V c main_v15) (V c main_arg7) (V c main_v16) (V c main_arg9) (V c main_v17) (V c main_v11) (V c main_v13) := by
  refine (dat3 V c).arrAt_eq_of_covers 14 _ (by decide +kernel) fun t hf y => ?_
  blk_simp
  obtain ⟨-, -, -, -, -, -, -, -, -, -, -, -, -, -, h⟩ := dat3_after V c t
  rw [h]
  obtain ⟨r, q, rfl⟩ : ∃ (r : Fin 1024) (q : Fin 128), y = ix2 r q := ⟨y 0, y 1, eq_ix2 y⟩
  refine (out3_apply _ _ _ _ _ _ _ _ _ _ _ _ _ _ r q).trans ?_
  obtain ⟨w3, w4, w5, w6, w7, w8, w9, w10, w11, w12, w13⟩ := whole3 V c t
  obtain ⟨r0, r1, r2⟩ := rows3 V c t r
  have e : (win3_14.blk t).view.emb (ix2 r q) = ix2 (rowAt t r) q := by
    obtain ⟨-, -, -, -, -, -, -, -, -, -, -, -, -, -, e14⟩ := index3 t
    unfold rowAt
    blk_ext [e14]
  rw [w3, w4, w5, w6, w7, w8, w9, w10, w11, w12, w13, e]
  unfold deep
  simp only [r0, r1, r2]
  rfl

end Cert.Proof

end
-- ==== Proof.Whole.lean ====
/-
  What the kernel and its reference compute, as plain mathematics of the launch's arguments.
-/
module

public import proofs.«01_k».proof.Proof.Frames
public import proofs.«01_k».proof.Proof.Net

@[expose] public section

set_option maxRecDepth 16384

noncomputable section

namespace Cert.Proof

open Cert.KernelIdeal Cert.KernelIdeal.Gen
open Idealize.ShloMosaic Idealize.ShloMosaic.TcCoe

open scoped BigOperators

/-- The embeddings of one row of the batch, one after the other: position `R` is component `R % 64` of the entry that
    the row's index for field `R / 64` names in that field's table. -/
def look (a1 : IVec S16384x26 32) (a2 : Vec Ideal S26x100000x64 .f32) (b : Fin 16384) (R : Fin 1664) : EReal :=
  a2 (ix3 (⟨R.val / 64, by omega⟩ : Fin 26) (Fin.ofNat 100000 (a1 (ix2 b (⟨R.val / 64, by omega⟩ : Fin 26))).toNat)
    (⟨R.val % 64, by omega⟩ : Fin 64))

/-- The input of the first layer in one row of the batch: the numbers, then the embeddings. -/
def input (a0 : Vec Ideal S16384x13 .f32) (a1 : IVec S16384x26 32) (a2 : Vec Ideal S26x100000x64 .f32) (b : Fin 16384) (k : Fin 1677) : EReal :=
  if h : k.val < 13 then a0 (ix2 b (⟨k.val, h⟩ : Fin 13)) else look a1 a2 b ⟨k.val - 13, by omega⟩

/-- The network's outputs for the whole batch. -/
def net (a0 : Vec Ideal S16384x13 .f32) (a1 : IVec S16384x26 32) (a2 : Vec Ideal S26x100000x64 .f32) (a3 : Vec Ideal S1677x1024 .f32)
    (a4 : Vec Ideal S1024 .f32) (a5 : Vec Ideal S1024x1024 .f32) (a6 : Vec Ideal S1024 .f32) (a7 : Vec Ideal S1024x512 .f32)
    (a8 : Vec Ideal S512 .f32) (a9 : Vec Ideal S512x256 .f32) (a10 : Vec Ideal S256 .f32) (a11 : Vec Ideal S256x2 .f32) (a12 : Vec Ideal S2 .f32) :
    Vec Ideal S16384x2 .f32 := fun i =>
  later (fun k n => a5 (ix2 k n)) (fun n => a6 (ix1 n)) (fun k n => a7 (ix2 k n)) (fun n => a8 (ix1 n))
    (fun k n => a9 (ix2 k n)) (fun n => a10 (ix1 n)) (fun k n => a11 (ix2 k n)) (fun n => a12 (ix1 n))
    (dense (fun k n => a3 (ix2 k n)) (fun n => a4 (ix1 n)) (input a0 a1 a2 (i 0))) (i 1)

/-- Two ways to give a dense layer's parts agree at an output when the parts that the output reads do. -/
theorem dense_congr {K N N' : ℕ} {w : Fin K → Fin N → EReal} {w' : Fin K → Fin N' → EReal} {b : Fin N → EReal} {b' : Fin N' → EReal}
    {x x' : Fin K → EReal} {n : Fin N} {n' : Fin N'} (hx : ∀ k, x k = x' k) (hw : ∀ k, w k n = w' k n') (hb : b n = b' n') :
    dense w b x n = dense w' b' x' n' := by
  unfold dense
  rw [hb]
  exact congrArg (· + b' n') (Finset.sum_congr rfl fun k _ => by rw [hx, hw])

/-- The same of the layers after the first. -/
theorem later_congr {N N' : ℕ} {w1 w1' : Fin 1024 → Fin 1024 → EReal} {b1 b1' : Fin 1024 → EReal} {w2 w2' : Fin 1024 → Fin 512 → EReal}
    {b2 b2' : Fin 512 → EReal} {w3 w3' : Fin 512 → Fin 256 → EReal} {b3 b3' : Fin 256 → EReal}
    {w4 : Fin 256 → Fin N → EReal} {b4 : Fin N → EReal} {w4' : Fin 256 → Fin N' → EReal} {b4' : Fin N' → EReal}
    {h h' : Fin 1024 → EReal} {n : Fin N} {n' : Fin N'}
    (e1 : ∀ k j, w1 k j = w1' k j) (c1 : ∀ j, b1 j = b1' j) (e2 : ∀ k j, w2 k j = w2' k j) (c2 : ∀ j, b2 j = b2' j)
    (e3 : ∀ k j, w3 k j = w3' k j) (c3 : ∀ j, b3 j = b3' j) (e4 : ∀ k, w4 k n = w4' k n') (c4 : b4 n = b4' n') (hh : ∀ k, h k = h' k) :
    later w1 b1 w2 b2 w3 b3 w4 b4 h n = later w1' b1' w2' b2' w3' b3' w4' b4' h' n' :=
  dense_congr (fun k => congrArg relu (dense_congr (fun k => congrArg relu (dense_congr (fun k => congrArg relu (dense_congr
    (fun k => congrArg relu (hh k)) (fun j => e1 j k) (c1 k))) (fun j => e2 j k) (c2 k))) (fun j => e3 j k) (c3 k))) e4 c4

end Cert.Proof

end
-- ==== Proof.KernelValue.lean ====
/-
  What the kernel leaves in its result: the network's outputs.
-/
module

public import Idealize.ShloMosaic.Lib.KernelVsHost
public import proofs.«01_k».proof.Proof.Entry
public import proofs.«01_k».proof.Proof.Arrays
public import proofs.«01_k».proof.Proof.Whole

@[expose] public section

set_option maxRecDepth 16384

noncomputable section

namespace Cert.Proof

open Cert.KernelIdeal Cert.KernelIdeal.Gen
open Idealize.ShloMosaic Idealize.ShloMosaic.TcCoe
open scoped BigOperators

variable (m : (ℓ : Loc nD τ sig) → Buf (Elt Ideal) ℓ) (c : Dev nD)

theorem padZero_apply (j : S_.Idx) : padZero Ideal j = (0 : EReal) := sitofp_zero (φ := .f32)

/-- What the two calls gather, entry by entry. -/
theorem gat_apply (lo : ℕ) (hlo : lo ≤ 832) (p : Fin 832) (b : Fin 16384) :
    gat (atCalls m) lo c (ix2 p b) = look (m (c, Proc.devRef .tc main_arg1)) (m (c, Proc.devRef .tc main_arg2)) b ⟨lo + p.val, by omega⟩ := by
  have e1 : atCalls m c main_v1 = before m c (Proc.devRef .tc main_v1) := rfl
  have e2 : atCalls m c main_v2 = before m c (Proc.devRef .tc main_v2) := rfl
  unfold gat gath gathAt
  rw [e1, e2, before_v1, before_v2]
  have hR : (Fin.ofNat 1664 (lo + p.val)) = ⟨lo + p.val, by omega⟩ := Fin.ext (Nat.mod_eq_of_lt (by omega))
  have hf : (Fin.ofNat 26 ((lo + p.val) / 64)) = ⟨(lo + p.val) / 64, by omega⟩ := Fin.ext (Nat.mod_eq_of_lt (by omega))
  pointwise
  simp only [hR, hf]
  rfl

/-- A column of the padded numbers is a column of the numbers, or zero. -/
theorem numbers_inside (x : Vec Ideal S16384x13 .f32) (b : Fin 16384) (k : Fin 13) :
    pad S16384x128 ![0, 0] ![0, 115] ![0, 0] x (padZero Ideal) pads_S16384x13_S16384x128_000_01150 h_S_ (ix2 b (⟨k.val, by omega⟩ : Fin 128))
      = x (ix2 b k) :=
  pad_apply_of_inside _ _ _ _ _ _ _ _ _ fun a => by
    match a with
    | ⟨0, _⟩ => exact (Nat.zero_add _).symm ▸ (Nat.mul_one _).symm
    | ⟨1, _⟩ => exact (Nat.zero_add _).symm ▸ (Nat.mul_one _).symm

theorem numbers_outside (x : Vec Ideal S16384x13 .f32) (b : Fin 16384) (k : Fin 128) (hk : 13 ≤ k.val) :
    pad S16384x128 ![0, 0] ![0, 115] ![0, 0] x (padZero Ideal) pads_S16384x13_S16384x128_000_01150 h_S_ (ix2 b k) = (0 : EReal) :=
  (pad_apply_of_not_inside _ _ _ _ _ _ _ _ (1 : Fin 2) fun h => by
    have h2 : (k.val - 0) / (0 + 1) < 13 := h.2.2
    omega).trans (padZero_apply _)

/-- A row of the numbers' weights, padded, is a row of the weights. -/
theorem weights_inside (x : Vec Ideal S1677x1024 .f32) (k : Fin 13) (n : Fin 1024) :
    pad S128x1024 ![0, 0] ![115, 0] ![0, 0] (extractStridedSlice S13x1024 ![0, 0] x slices_S1677x1024_S13x1024_0_0) (padZero Ideal)
        pads_S13x1024_S128x1024_01150_000 h_S_ (ix2 (⟨k.val, by omega⟩ : Fin 128) n)
      = x (ix2 (⟨k.val, by omega⟩ : Fin 1677) n) := by
  refine (pad_apply_of_inside _ _ _ _ _ _ _ _ (ix2 k n) fun a => ?_).trans ?_
  · match a with
    | ⟨0, _⟩ => exact (Nat.zero_add _).symm ▸ (Nat.mul_one _).symm
    | ⟨1, _⟩ => exact (Nat.zero_add _).symm ▸ (Nat.mul_one _).symm
  · pointwise

/-- The padded weights of the last layer, at a column that is an output, -/
theorem last_inside (x : Vec Ideal S256x2 .f32) (k : Fin 256) (q : Fin 2) :
    pad S256x128 ![0, 0] ![0, 126] ![0, 0] x (padZero Ideal) pads_S256x2_S256x128_000_01260 h_S_ (ix2 k (⟨q.val, by omega⟩ : Fin 128))
      = x (ix2 k q) :=
  pad_apply_of_inside _ _ _ _ _ _ _ _ _ fun a => by
    match a with
    | ⟨0, _⟩ => exact (Nat.zero_add _).symm ▸ (Nat.mul_one _).symm
    | ⟨1, _⟩ => exact (Nat.zero_add _).symm ▸ (Nat.mul_one _).symm

/-- and its padded bias. -/
theorem bias_inside (x : Vec Ideal S2 .f32) (q : Fin 2) :
    shapeCast S1x128 (pad S128 ![0] ![126] ![0] x (padZero Ideal) pads_S2_S128_01260 h_S_) shapeCasts_S128_S1x128
        (ix2 (0 : Fin 1) (⟨q.val, by omega⟩ : Fin 128))
      = x (ix1 q) := by
  have e : pad S128 ![0] ![126] ![0] x (padZero Ideal) pads_S2_S128_01260 h_S_ (ix1 (⟨q.val, by omega⟩ : Fin 128)) = x (ix1 q) :=
    pad_apply_of_inside _ _ _ _ _ _ _ _ _ fun a => by
      match a with
      | ⟨0, _⟩ => exact (Nat.zero_add _).symm ▸ (Nat.mul_one _).symm
  refine Eq.trans ?_ e
  pointwise

/-- The first layer as the kernel adds it up: the first half of the embeddings, the numbers, the second half, the bias. -/
theorem first_layer (a0 : Vec Ideal S16384x13 .f32) (a1 : IVec S16384x26 32) (a2 : Vec Ideal S26x100000x64 .f32) (a3 : Vec Ideal S1677x1024 .f32)
    (a4 : Vec Ideal S1024 .f32) (x3 x4 : Vec Ideal S832x16384 .f32) (b : Fin 16384) (n : Fin 1024)
    (h3 : ∀ p b, x3 (ix2 p b) = look a1 a2 b ⟨0 + p.val, by omega⟩) (h4 : ∀ p b, x4 (ix2 p b) = look a1 a2 b ⟨832 + p.val, by omega⟩) :
    ((half x3 (extractStridedSlice S832x1024 ![13, 0] a3 slices_S1677x1024_S832x1024_13_0) (ix2 b n)
      + ∑ k : Fin 128, pad S16384x128 ![0, 0] ![0, 115] ![0, 0] a0 (padZero Ideal) pads_S16384x13_S16384x128_000_01150 h_S_ (ix2 b k)
          * pad S128x1024 ![0, 0] ![115, 0] ![0, 0] (extractStridedSlice S13x1024 ![0, 0] a3 slices_S1677x1024_S13x1024_0_0) (padZero Ideal)
              pads_S13x1024_S128x1024_01150_000 h_S_ (ix2 k n))
      + ∑ k : Fin 832, x4 (ix2 k b) * extractStridedSlice S832x1024 ![845, 0] a3 slices_S1677x1024_S832x1024_845_0 (ix2 k n))
      + shapeCast S1x1024 a4 shapeCasts_S1024_S1x1024 (ix2 (0 : Fin 1) n)
    = dense (fun k n => a3 (ix2 k n)) (fun n => a4 (ix1 n)) (input a0 a1 a2 b) n := by
  unfold dense
  rw [sum_first, sum_head (a := 13) (b := 115) rfl _ fun k hk => by rw [numbers_outside a0 b k hk]; exact zero_mul _]
  refine congrArg₂ (· + ·) (congrArg₂ (· + ·) (congrArg₂ (· + ·) (Finset.sum_congr rfl fun k _ => ?_) (Finset.sum_congr rfl fun k _ => ?_))
    (Finset.sum_congr rfl fun k _ => ?_)) ?_
  · refine congrArg₂ (· * ·) ((h3 k b).trans ?_) (by pointwise)
    unfold input
    rw [dif_neg (by simp only []; omega)]
    exact congrArg (look a1 a2 b) (Fin.ext (by simp only []; omega))
  · refine congrArg₂ (· * ·) ((numbers_inside a0 b k).trans ?_) (weights_inside a3 k n)
    unfold input
    rw [dif_pos k.isLt]
  · refine congrArg₂ (· * ·) ((h4 k b).trans ?_) (by pointwise)
    unfold input
    rw [dif_neg (by simp only []; omega)]
    exact congrArg (look a1 a2 b) (Fin.ext (by simp only []; omega))
  · pointwise

theorem kernel_value : final m c (Proc.devRef .tc main_v19)
    = net (m (c, Proc.devRef .tc main_arg0)) (m (c, Proc.devRef .tc main_arg1)) (m (c, Proc.devRef .tc main_arg2)) (m (c, Proc.devRef .tc main_arg3))
        (m (c, Proc.devRef .tc main_arg4)) (m (c, Proc.devRef .tc main_arg5)) (m (c, Proc.devRef .tc main_arg6)) (m (c, Proc.devRef .tc main_arg7))
        (m (c, Proc.devRef .tc main_arg8)) (m (c, Proc.devRef .tc main_arg9)) (m (c, Proc.devRef .tc main_arg10)) (m (c, Proc.devRef .tc main_arg11))
        (m (c, Proc.devRef .tc main_arg12)) := by
  rw [final_v19, exit3_v18, array3]
  simp only [reads]
  rw [entry3_v8, entry3_v4, entry3_v7, array2, entry3_v10, entry3_v6, entry3_v14, entry3_v15, entry3_v16, entry3_v17, entry3_v11, entry3_v13,
    entry3_keeps m c (r := main_arg5) (by decide) (by decide) (by decide) (by decide) (by decide) (by decide),
    entry3_keeps m c (r := main_arg7) (by decide) (by decide) (by decide) (by decide) (by decide) (by decide),
    entry3_keeps m c (r := main_arg9) (by decide) (by decide) (by decide) (by decide) (by decide) (by decide)]
  simp only [reads]
  rw [entry2_v3, entry2_v5]
  funext y
  obtain ⟨b, q, rfl⟩ : ∃ (b : Fin 16384) (q : Fin 2), y = ix2 b q := ⟨y 0, y 1, eq_ix2 y⟩
  have e : ∀ x : Vec Ideal S16384x128 .f32, extractStridedSlice S16384x2 ![0, 0] x slices_S16384x128_S16384x2_0_0 (ix2 b q)
      = x (ix2 b (⟨q.val, by omega⟩ : Fin 128)) := fun x => by pointwise
  refine (e _).trans ?_
  unfold deep net
  refine later_congr (fun _ _ => rfl) (fun j => ?_) (fun _ _ => rfl) (fun j => ?_) (fun _ _ => rfl) (fun j => ?_)
    (fun k => last_inside _ k q) (bias_inside _ q)
    fun n => first_layer _ _ _ _ _ _ _ b n (gat_apply m c 0 (by omega)) (gat_apply m c 832 (by omega))
  all_goals pointwise

end Cert.Proof

end
-- ==== Proof.ReferenceValue.lean ====
/-
  What the reference program computes: the network's outputs, where every index is a row of the tables.
-/
module

public import proofs.«01_k».proof.Proof.Gen.ReferenceIdeal.Run
public import Idealize.ShloMosaic.Lib.Pointwise
public import proofs.«01_k».proof.Proof.Whole

@[expose] public section

set_option maxRecDepth 16384

noncomputable section

namespace Cert.Proof

open Cert.ReferenceIdeal Cert.ReferenceIdeal.Gen
open Idealize.ShloMosaic Idealize.ShloMosaic.TcCoe
open scoped BigOperators

/-- The indices the reference looks up: the arguments', a negative one counted from the end of its table. -/
def wrapped (a1 : IVec S16384x26 32) : IVec S26x16384x1 32 :=
  broadcastInDim S26x16384x1 ![0, 1] bcast_S26x16384_S26x16384x1_0_1 (transpose S26x16384 [1, 0] (select (cmpi .slt a1 (broadcastInDim S16384x26 ![] bcast_S_S16384x26 (constantI S_ 32 0#32))) (addi a1 (broadcastInDim S16384x26 ![] bcast_S_S16384x26 (constantI S_ 32 100000#32))) a1) transposes_S16384x26_S26x16384_1_0)

/-- Where the index is a row of the table. -/
def masked (a1 : IVec S16384x26 32) : IVec S26x16384 1 :=
  Host.reduce IntOp.andi (andi (cmpi .sge (wrapped a1) (broadcastInDim S26x16384x1 ![] bcast_S_S26x16384x1 (constantI S_ 32 0#32))) (cmpi .sle (wrapped a1) (broadcastInDim S26x16384x1 ![0, 1, 2] bcast_S1x1x1_S26x16384x1_0_1_2 (broadcastInDim S1x1x1 ![2] bcast_S1_S1x1x1_2 (constantI S1 32 99999#32))))) (constantI S_ 1 1#1) reducesTo_S26x16384x1_S26x16384_d2 h_S_

/-- What the reference looks up, each field's entries together; where the index is no row of the table it is not a number. -/
def taken (a1 : IVec S16384x26 32) (a2 : FVec Ideal S26x100000x64 .f32) : FVec Ideal S26x16384x64 .f32 :=
  select (broadcastInDim S26x16384x64 ![0, 1] bcast_S26x16384_S26x16384x64_0_1 (masked a1)) (Host.gather gather_S26x100000x64_S26x16384x1_S26x16384x64_2_1_0_0_1_2_1164 a2 (wrapped a1)) (broadcastInDim S26x16384x64 ![] bcast_S_S26x16384x64 (constant (F := Ideal) S_ .f32 0x7FC00000#32))

/-- The first layer's input. -/
def joined (a0 : FVec Ideal S16384x13 .f32) (a1 : IVec S16384x26 32) (a2 : FVec Ideal S26x100000x64 .f32) : FVec Ideal S16384x1677 .f32 :=
  concatenate S16384x1677 1 [⟨S16384x13, a0⟩, ⟨S16384x1664, (shapeCast _ (transpose S16384x26x64 [1, 0, 2] (taken a1 a2) transposes_S26x16384x64_S16384x26x64_1_0_2) shapeCasts_S16384x26x64_S16384x1664)⟩] concatenates_S16384x13_S16384x1664_S16384x1677_d1

/-- The reference's result. -/
def result (a0 : FVec Ideal S16384x13 .f32) (a1 : IVec S16384x26 32) (a2 : FVec Ideal S26x100000x64 .f32) (a3 : FVec Ideal S1677x1024 .f32)
    (a4 : FVec Ideal S1024 .f32) (a5 : FVec Ideal S1024x1024 .f32) (a6 : FVec Ideal S1024 .f32) (a7 : FVec Ideal S1024x512 .f32)
    (a8 : FVec Ideal S512 .f32) (a9 : FVec Ideal S512x256 .f32) (a10 : FVec Ideal S256 .f32) (a11 : FVec Ideal S256x2 .f32) (a12 : FVec Ideal S2 .f32) :
    FVec Ideal S16384x2 .f32 :=
  addf (Host.dotGeneral dot_S16384x256_S256x2_S16384x2_1_0_0_1_n_n none (maximumf (addf (Host.dotGeneral dot_S16384x512_S512x256_S16384x256_1_0_0_1_n_n none (maximumf (addf (Host.dotGeneral dot_S16384x1024_S1024x512_S16384x512_1_0_0_1_n_n none (maximumf (addf (Host.dotGeneral dot_S16384x1024_S1024x1024_S16384x1024_1_0_0_1_n_n none (maximumf (addf (Host.dotGeneral dot_S16384x1677_S1677x1024_S16384x1024_1_0_0_1_n_n none (joined a0 a1 a2) a3) (broadcastInDim S16384x1024 ![0, 1] bcast_S1x1024_S16384x1024_0_1 (broadcastInDim S1x1024 ![1] bcast_S1024_S1x1024_1 a4))) (broadcastInDim S16384x1024 ![] bcast_S_S16384x1024 (constant (F := Ideal) S_ .f32 0x00000000#32))) a5) (broadcastInDim S16384x1024 ![0, 1] bcast_S1x1024_S16384x1024_0_1 (broadcastInDim S1x1024 ![1] bcast_S1024_S1x1024_1 a6))) (broadcastInDim S16384x1024 ![] bcast_S_S16384x1024 (constant (F := Ideal) S_ .f32 0x00000000#32))) a7) (broadcastInDim S16384x512 ![0, 1] bcast_S1x512_S16384x512_0_1 (broadcastInDim S1x512 ![1] bcast_S512_S1x512_1 a8))) (broadcastInDim S16384x512 ![] bcast_S_S16384x512 (constant (F := Ideal) S_ .f32 0x00000000#32))) a9) (broadcastInDim S16384x256 ![0, 1] bcast_S1x256_S16384x256_0_1 (broadcastInDim S1x256 ![1] bcast_S256_S1x256_1 a10))) (broadcastInDim S16384x256 ![] bcast_S_S16384x256 (constant (F := Ideal) S_ .f32 0x00000000#32))) a11) (broadcastInDim S16384x2 ![0, 1] bcast_S1x2_S16384x2_0_1 (broadcastInDim S1x2 ![1] bcast_S2_S1x2_1 a12))

theorem wrapped_apply (a1 : IVec S16384x26 32) (h : ∀ y, 0 ≤ (a1 y).toInt ∧ (a1 y).toInt < 100000) (f : Fin 26) (b : Fin 16384) (z : Fin 1) :
    wrapped a1 (ix3 f b z) = a1 (ix2 b f) := by
  obtain ⟨h0, -⟩ := h (ix2 b f)
  have e : IntOp.cmpi .slt (a1 (ix2 b f)) 0#32 = 0#1 := by
    refine (BitVec.eq_zero_or_eq_one _).resolve_right fun h1 => ?_
    have := IntOp.cmpi_slt.1 h1
    simp only [BitVec.toInt_zero] at this
    omega
  pointwise [wrapped]
  rw [e]
  rfl

theorem masked_apply (a1 : IVec S16384x26 32) (h : ∀ y, 0 ≤ (a1 y).toInt ∧ (a1 y).toInt < 100000) (f : Fin 26) (b : Fin 16384) :
    masked a1 (ix2 f b) = 1#1 := by
  obtain ⟨h0, h1⟩ := h (ix2 b f)
  have e : ∀ z : Fin 1, IntOp.andi (IntOp.cmpi .sge (wrapped a1 (ix3 f b z)) 0#32) (IntOp.cmpi .sle (wrapped a1 (ix3 f b z)) 99999#32) = 1#1 :=
    fun z => by
      rw [wrapped_apply a1 h f b z, IntOp.cmpi_sge.2 (by simpa using h0),
        IntOp.cmpi_sle.2 (by have : (99999#32 : BitVec 32).toInt = 99999 := by decide
                             omega)]
      decide
  unfold masked
  pointwise
  simp only [e]
  decide

/-- The gather, read at one field, one row of the batch and one component: the table's entry at the index there. -/
theorem gathered_apply (x : S26x100000x64.Idx → EReal) (idx : IVec S26x16384x1 32) (f : Fin 26) (b : Fin 16384) (e : Fin 64) :
    Host.gather gather_S26x100000x64_S26x16384x1_S26x16384x64_2_1_0_0_1_2_1164 x idx (ix3 f b e)
      = x (ix3 f (⟨min (idx (ix3 f b (0 : Fin 1))).toInt.toNat 99999, by omega⟩ : Fin 100000) e) := by
  have hf : gather_S26x100000x64_S26x16384x1_S26x16384x64_2_1_0_0_1_2_1164.start (ix3 f b e) idx (0 : Fin 3) = 0
      ∧ gather_S26x100000x64_S26x16384x1_S26x16384x64_2_1_0_0_1_2_1164.batchCoord (ix3 f b e) (0 : Fin 3) = f.val
      ∧ gather_S26x100000x64_S26x16384x1_S26x16384x64_2_1_0_0_1_2_1164.offCoord (ix3 f b e) (0 : Fin 3) = 0 := by
    refine ⟨GatherDims.start_batching _ _ _ _ (by decide), ?_, GatherDims.offCoord_eq_zero _ _ _ (by decide)⟩
    unfold GatherDims.batchCoord
    rw [dif_pos (by decide)]
    rfl
  have hb : gather_S26x100000x64_S26x16384x1_S26x16384x64_2_1_0_0_1_2_1164.start (ix3 f b e) idx (1 : Fin 3)
        = min (idx (ix3 f b (0 : Fin 1))).toInt.toNat 99999
      ∧ gather_S26x100000x64_S26x16384x1_S26x16384x64_2_1_0_0_1_2_1164.batchCoord (ix3 f b e) (1 : Fin 3) = 0
      ∧ gather_S26x100000x64_S26x16384x1_S26x16384x64_2_1_0_0_1_2_1164.offCoord (ix3 f b e) (1 : Fin 3) = 0 := by
    refine ⟨?_, GatherDims.batchCoord_eq_zero _ _ _ (by decide), GatherDims.offCoord_eq_zero _ _ _ (by decide)⟩
    unfold GatherDims.start
    rw [dif_pos (by decide)]
    refine congrArg₂ min (congrArg (fun j => (idx j).toInt.toNat) (funext fun a => Fin.ext ?_)) rfl
    match a with
    | ⟨0, _⟩ => rfl
    | ⟨1, _⟩ => rfl
    | ⟨2, _⟩ => rfl
  have he : gather_S26x100000x64_S26x16384x1_S26x16384x64_2_1_0_0_1_2_1164.start (ix3 f b e) idx (2 : Fin 3) = 0
      ∧ gather_S26x100000x64_S26x16384x1_S26x16384x64_2_1_0_0_1_2_1164.batchCoord (ix3 f b e) (2 : Fin 3) = 0
      ∧ gather_S26x100000x64_S26x16384x1_S26x16384x64_2_1_0_0_1_2_1164.offCoord (ix3 f b e) (2 : Fin 3) = e.val := by
    refine ⟨?_, GatherDims.batchCoord_eq_zero _ _ _ (by decide), ?_⟩
    · unfold GatherDims.start
      rw [dif_neg (by decide)]
    · unfold GatherDims.offCoord
      rw [dif_pos (by decide)]
      rfl
  unfold Host.gather
  refine congrArg x (funext fun a => Fin.ext ?_)
  match a with
  | ⟨0, _⟩ => exact (congrArg₂ (· + ·) (congrArg₂ (· + ·) hf.1 hf.2.1) hf.2.2).trans (by simp only [Nat.zero_add, Nat.add_zero]; rfl)
  | ⟨1, _⟩ => exact (congrArg₂ (· + ·) (congrArg₂ (· + ·) hb.1 hb.2.1) hb.2.2).trans rfl
  | ⟨2, _⟩ => exact (congrArg₂ (· + ·) (congrArg₂ (· + ·) he.1 he.2.1) he.2.2).trans (by simp only [Nat.zero_add]; rfl)

theorem taken_apply (a1 : IVec S16384x26 32) (a2 : Vec Ideal S26x100000x64 .f32) (h : ∀ y, 0 ≤ (a1 y).toInt ∧ (a1 y).toInt < 100000)
    (f : Fin 26) (b : Fin 16384) (e : Fin 64) :
    taken a1 a2 (ix3 f b e) = a2 (ix3 f (Fin.ofNat 100000 (a1 (ix2 b f)).toNat) e) := by
  obtain ⟨h0, h1⟩ := h (ix2 b f)
  unfold taken
  pointwise
  rw [masked_apply a1 h]
  refine (gathered_apply _ _ f b e).trans (congrArg (fun v => a2 (ix3 f v e)) (Fin.ext ?_))
  show min (wrapped a1 (ix3 f b (0 : Fin 1))).toInt.toNat 99999 = (a1 (ix2 b f)).toNat % 100000
  rw [wrapped_apply a1 h]
  have : (a1 (ix2 b f)).toInt = (a1 (ix2 b f)).toNat := by
    have := (a1 (ix2 b f)).isLt
    rw [BitVec.toInt_eq_toNat_cond] at h0 h1 ⊢
    split at h0 <;> split <;> omega
  omega

theorem joined_apply (a0 : Vec Ideal S16384x13 .f32) (a1 : IVec S16384x26 32) (a2 : Vec Ideal S26x100000x64 .f32)
    (h : ∀ y, 0 ≤ (a1 y).toInt ∧ (a1 y).toInt < 100000) (b : Fin 16384) (k : Fin 1677) :
    joined a0 a1 a2 (ix2 b k) = input a0 a1 a2 b k := by
  unfold joined
  pointwise
  unfold input look
  simp only [taken_apply a1 a2 h]

/-- Where every index is a row of its table, the reference computes the network's outputs. -/
theorem result_value (a0 : Vec Ideal S16384x13 .f32) (a1 : IVec S16384x26 32) (a2 : Vec Ideal S26x100000x64 .f32) (a3 : Vec Ideal S1677x1024 .f32)
    (a4 : Vec Ideal S1024 .f32) (a5 : Vec Ideal S1024x1024 .f32) (a6 : Vec Ideal S1024 .f32) (a7 : Vec Ideal S1024x512 .f32)
    (a8 : Vec Ideal S512 .f32) (a9 : Vec Ideal S512x256 .f32) (a10 : Vec Ideal S256 .f32) (a11 : Vec Ideal S256x2 .f32) (a12 : Vec Ideal S2 .f32)
    (h : ∀ y, 0 ≤ (a1 y).toInt ∧ (a1 y).toInt < 100000) :
    result a0 a1 a2 a3 a4 a5 a6 a7 a8 a9 a10 a11 a12 = net a0 a1 a2 a3 a4 a5 a6 a7 a8 a9 a10 a11 a12 := by
  funext y
  obtain ⟨b, q, rfl⟩ : ∃ (b : Fin 16384) (q : Fin 2), y = ix2 b q := ⟨y 0, y 1, eq_ix2 y⟩
  unfold result net later dense relu
  pointwise
  simp only [joined_apply a0 a1 a2 h]

end Cert.Proof

end
-- ==== Proof.Algebraic.lean ====
/-
  The kernel and its reference compute the same: over the extended reals both leave the network's outputs.
-/
module

public import proofs.«01_k».proof.Proof.KernelValue
public import proofs.«01_k».proof.Proof.ReferenceValue
public import proofs.«01_k».proof.Proof.Reference

@[expose] public section

set_option maxRecDepth 16384

noncomputable section

namespace Cert.Proof

open Idealize.ShloMosaic Idealize.SL.Sem

/-- Equal arguments give equal outputs. -/
theorem net_congr {x0 y0 x1 y1 x2 y2 x3 y3 x4 y4 x5 y5 x6 y6 x7 y7 x8 y8 x9 y9 x10 y10 x11 y11 x12 y12}
    (h : x0 = y0 ∧ x1 = y1 ∧ x2 = y2 ∧ x3 = y3 ∧ x4 = y4 ∧ x5 = y5 ∧ x6 = y6 ∧ x7 = y7 ∧ x8 = y8 ∧ x9 = y9 ∧ x10 = y10 ∧ x11 = y11 ∧ x12 = y12) :
    net x0 x1 x2 x3 x4 x5 x6 x7 x8 x9 x10 x11 x12 = net y0 y1 y2 y3 y4 y5 y6 y7 y8 y9 y10 y11 y12 := by
  obtain ⟨rfl, rfl, rfl, rfl, rfl, rfl, rfl, rfl, rfl, rfl, rfl, rfl, rfl⟩ := h
  rfl

theorem algebraic : Cert.algebraic_KernelIdeal_ReferenceIdeal := fun m g m' g' hpre hargs => by
  have hin : ∀ (d : Dev Cert.KernelIdeal.nD) (y : Cert.KernelIdeal.S16384x26.Idx),
      0 ≤ (m (d, Proc.devRef .tc Cert.KernelIdeal.main_arg1) y).toInt ∧ (m (d, Proc.devRef .tc Cert.KernelIdeal.main_arg1) y).toInt < 100000 :=
    fun d y => all_of_pre (hpre d) y
  refine ⟨fun c => net (m (c, Proc.devRef .tc Cert.KernelIdeal.main_arg0)) (m (c, Proc.devRef .tc Cert.KernelIdeal.main_arg1)) (m (c, Proc.devRef .tc Cert.KernelIdeal.main_arg2)) (m (c, Proc.devRef .tc Cert.KernelIdeal.main_arg3)) (m (c, Proc.devRef .tc Cert.KernelIdeal.main_arg4)) (m (c, Proc.devRef .tc Cert.KernelIdeal.main_arg5)) (m (c, Proc.devRef .tc Cert.KernelIdeal.main_arg6)) (m (c, Proc.devRef .tc Cert.KernelIdeal.main_arg7)) (m (c, Proc.devRef .tc Cert.KernelIdeal.main_arg8)) (m (c, Proc.devRef .tc Cert.KernelIdeal.main_arg9)) (m (c, Proc.devRef .tc Cert.KernelIdeal.main_arg10)) (m (c, Proc.devRef .tc Cert.KernelIdeal.main_arg11)) (m (c, Proc.devRef .tc Cert.KernelIdeal.main_arg12)),
    (θ_run _ _ _).mono (fun r h c => ⟨?_, arguments (h.1 c)⟩) (run_main (F := Ideal) m g (inRange_of_all m hin)),
    (θ_run _ _ _).mono (fun r h c => ⟨?_, (h c).2⟩) (Cert.ReferenceIdeal.Value.run (F := Ideal) m' g')⟩
  · exact (h.1 c _ (mem_arrays Cert.KernelIdeal.main_v19 (by decide))).trans (kernel_value m c)
  · refine (h c).1.trans (Eq.trans (result_value _ _ _ _ _ _ _ _ _ _ _ _ _ fun y => ?_) (net_congr (hargs c)))
    rw [(hargs c).2.1]
    exact hin c y

end Cert.Proof

end
-- ==== Proof.lean ====
/-
  The claims, put together: the frames of the kernel, of its idealized form and of the reference, that no operation
  was rewritten between the first two, and that kernel and reference compute the same over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Reference
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
